-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 4096]⟩ (Layout.meshBlock [2, 2, 4] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S256x2048 : Shape := ⟨2, ![256, 2048]⟩
abbrev S256x1024 : Shape := ⟨2, ![256, 1024]⟩
abbrev S4 : Shape := ⟨1, ![4]⟩
abbrev S_ : Shape := ⟨0, ![]⟩
abbrev S512x256 : Shape := ⟨2, ![512, 256]⟩
abbrev S512x1024 : Shape := ⟨2, ![512, 1024]⟩
abbrev S512x64 : Shape := ⟨2, ![512, 64]⟩
abbrev S64x1024 : Shape := ⟨2, ![64, 1024]⟩
abbrev S1 : Shape := ⟨1, ![1]⟩
abbrev S512x128 : Shape := ⟨2, ![512, 128]⟩
abbrev S128x1024 : Shape := ⟨2, ![128, 1024]⟩

abbrev nBuf : Space → Nat
  | .hbm => 3
  | .vmem => 8
  | .smem => 0
  | _ => 0

abbrev bufTy : (tb : Table) → Fin (tcTables nBuf tb) → BufTy
  | .hbm, ⟨0, _⟩ => ⟨S512x512, .bf16⟩
  | .hbm, ⟨1, _⟩ => ⟨S512x2048, .bf16⟩
  | .hbm, ⟨2, _⟩ => ⟨S256x2048, .f32⟩
  | .local _ .vmem, ⟨0, _⟩ => ⟨S512x512, .bf16⟩
  | .local _ .vmem, ⟨1, _⟩ => ⟨S512x2048, .bf16⟩
  | .local _ .vmem, ⟨2, _⟩ => ⟨S256x2048, .f32⟩
  | .local _ .vmem, ⟨3, _⟩ => ⟨S256x1024, .i8⟩
  | .local _ .vmem, ⟨4, _⟩ => ⟨S256x1024, .i8⟩
  | .local _ .vmem, ⟨5, _⟩ => ⟨S256x1024, .i8⟩
  | .local _ .vmem, ⟨6, _⟩ => ⟨S256x1024, .i8⟩
  | .local _ .vmem, ⟨7, _⟩ => ⟨S256x1024, .i8⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_12 : BitVec 32 := 8#32
  let v25 : BitVec 32 := Scalar.muli v19 c8_i32_12
  let v26 : BitVec 32 := Scalar.addi c0_i32_13 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v27 : BitVec 32 := Scalar.muli v5 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v31 : BitVec 32 := Scalar.muli v2 c8_i32_17
  let v32 : BitVec 32 := Scalar.addi c0_i32_18 v31
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_19 : BitVec 32 := 4#32
  let v33 : BitVec 32 := Scalar.muli v20 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v37 : BitVec 32 := Scalar.muli v2 c8_i32_22
  let v38 : BitVec 32 := Scalar.addi c0_i32_23 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v39 : BitVec 32 := Scalar.muli v5 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_25 : BitVec 32 := 1#32
  let v41 : BitVec 32 := Scalar.muli v23 c1_i32_25
  let v42 : BitVec 32 := Scalar.addi v40 v41
  v42.toNat
def k0_dev4 (d0 : Dev nD) : Nat :=
  let c0_i32_40 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_39 : BitVec 32 := 8#32
  let v75 : BitVec 32 := Scalar.muli v19 c8_i32_39
  let v76 : BitVec 32 := Scalar.addi c0_i32_40 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v77 : BitVec 32 := Scalar.muli v5 c4_i32_41
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v79 : BitVec 32 := Scalar.muli v8 c1_i32_42
  let v80 : BitVec 32 := Scalar.addi v78 v79
  v80.toNat
def k0_dev5 (d0 : Dev nD) : Nat :=
  let c0_i32_55 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_54 : BitVec 32 := 8#32
  let v100 : BitVec 32 := Scalar.muli v19 c8_i32_54
  let v101 : BitVec 32 := Scalar.addi c0_i32_55 v100
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v102 : BitVec 32 := Scalar.muli v5 c4_i32_56
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v104 : BitVec 32 := Scalar.muli v8 c1_i32_57
  let v105 : BitVec 32 := Scalar.addi v103 v104
  v105.toNat
def k0_dev6 (d0 : Dev nD) : Nat :=
  let c0_i32_69 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_68 : BitVec 32 := 8#32
  let v125 : BitVec 32 := Scalar.muli v19 c8_i32_68
  let v126 : BitVec 32 := Scalar.addi c0_i32_69 v125
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v127 : BitVec 32 := Scalar.muli v5 c4_i32_70
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v129 : BitVec 32 := Scalar.muli v8 c1_i32_71
  let v130 : BitVec 32 := Scalar.addi v128 v129
  v130.toNat
def k0_dev7 (d0 : Dev nD) : Nat :=
  let c0_i32_83 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_82 : BitVec 32 := 8#32
  let v150 : BitVec 32 := Scalar.muli v19 c8_i32_82
  let v151 : BitVec 32 := Scalar.addi c0_i32_83 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v152 : BitVec 32 := Scalar.muli v5 c4_i32_84
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v154 : BitVec 32 := Scalar.muli v8 c1_i32_85
  let v155 : BitVec 32 := Scalar.addi v153 v154
  v155.toNat
def k0_dev8 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v175 : BitVec 32 := Scalar.muli v2 c8_i32_97
  let v176 : BitVec 32 := Scalar.addi c0_i32_98 v175
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_99 : BitVec 32 := 4#32
  let v177 : BitVec 32 := Scalar.muli v20 c4_i32_99
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v179 : BitVec 32 := Scalar.muli v8 c1_i32_100
  let v180 : BitVec 32 := Scalar.addi v178 v179
  v180.toNat
def k0_dev9 (d0 : Dev nD) : Nat :=
  let c0_i32_118 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_117 : BitVec 32 := 8#32
  let v197 : BitVec 32 := Scalar.muli v2 c8_i32_117
  let v198 : BitVec 32 := Scalar.addi c0_i32_118 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_119 : BitVec 32 := 4#32
  let v199 : BitVec 32 := Scalar.muli v5 c4_i32_119
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_120 : BitVec 32 := 1#32
  let v201 : BitVec 32 := Scalar.muli v23 c1_i32_120
  let v202 : BitVec 32 := Scalar.addi v200 v201
  v202.toNat
def k0_dev10 (d0 : Dev nD) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v219 : BitVec 32 := Scalar.muli v2 c8_i32_137
  let v220 : BitVec 32 := Scalar.addi c0_i32_138 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_139 : BitVec 32 := 4#32
  let v221 : BitVec 32 := Scalar.muli v5 c4_i32_139
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_140 : BitVec 32 := 1#32
  let v223 : BitVec 32 := Scalar.muli v23 c1_i32_140
  let v224 : BitVec 32 := Scalar.addi v222 v223
  v224.toNat
def k0_dev11 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v244 : BitVec 32 := Scalar.muli v2 c8_i32_153
  let v245 : BitVec 32 := Scalar.addi c0_i32_154 v244
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_155 : BitVec 32 := 4#32
  let v246 : BitVec 32 := Scalar.muli v20 c4_i32_155
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v248 : BitVec 32 := Scalar.muli v8 c1_i32_156
  let v249 : BitVec 32 := Scalar.addi v247 v248
  v249.toNat
def k0_dev12 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v266 : BitVec 32 := Scalar.muli v2 c8_i32_173
  let v267 : BitVec 32 := Scalar.addi c0_i32_174 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v268 : BitVec 32 := Scalar.muli v5 c4_i32_175
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_176 : BitVec 32 := 1#32
  let v270 : BitVec 32 := Scalar.muli v23 c1_i32_176
  let v271 : BitVec 32 := Scalar.addi v269 v270
  v271.toNat
def k0_dev13 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_193 : BitVec 32 := 8#32
  let v288 : BitVec 32 := Scalar.muli v2 c8_i32_193
  let v289 : BitVec 32 := Scalar.addi c0_i32_194 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_195 : BitVec 32 := 4#32
  let v290 : BitVec 32 := Scalar.muli v5 c4_i32_195
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_196 : BitVec 32 := 1#32
  let v292 : BitVec 32 := Scalar.muli v23 c1_i32_196
  let v293 : BitVec 32 := Scalar.addi v291 v292
  v293.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S1024x2048 : Shape := ⟨2, ![1024, 2048]⟩
abbrev S512x512 : Shape := ⟨2, ![512, 512]⟩
abbrev S512x2048 : Shape := ⟨2, ![512, 2048]⟩
abbrev S256x2048 : Shape := ⟨2, ![256, 2048]⟩
abbrev S2048 : Shape := ⟨1, ![2048]⟩
abbrev S1x2048 : Shape := ⟨2, ![1, 2048]⟩
abbrev S_ : Shape := ⟨0, ![]⟩
abbrev S512x4096 : Shape := ⟨2, ![512, 4096]⟩

abbrev nBuf : Space → Nat
  | .hbm => 90
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x2048, .bf16⟩
  | .hbm, ⟨2, _⟩ => ⟨S1024x512, .f32⟩
  | .hbm, ⟨3, _⟩ => ⟨S1024x2048, .f32⟩
  | .hbm, ⟨4, _⟩ => ⟨S512x512, .f32⟩
  | .hbm, ⟨5, _⟩ => ⟨S512x512, .f32⟩
  | .hbm, ⟨6, _⟩ => ⟨S512x2048, .f32⟩
  | .hbm, ⟨7, _⟩ => ⟨S512x2048, .f32⟩
  | .hbm, ⟨8, _⟩ => ⟨S512x512, .f32⟩
  | .hbm, ⟨9, _⟩ => ⟨S512x512, .f32⟩
  | .hbm, ⟨10, _⟩ => ⟨S512x2048, .f32⟩
  | .hbm, ⟨11, _⟩ => ⟨S512x2048, .f32⟩
  | .hbm, ⟨12, _⟩ => ⟨S256x2048, .f32⟩
  | .hbm, ⟨13, _⟩ => ⟨S256x2048, .f32⟩
  | .hbm, ⟨14, _⟩ => ⟨S512x2048, .f32⟩
  | .hbm, ⟨15, _⟩ => ⟨S256x2048, .f32⟩
  | .hbm, ⟨16, _⟩ => ⟨S256x2048, .f32⟩
  | .hbm, ⟨17, _⟩ => ⟨S512x2048, .f32⟩
  | .hbm, ⟨18, _⟩ => ⟨S2048, .i32⟩
  | .hbm, ⟨19, _⟩ => ⟨S1x2048, .i32⟩
  | .hbm, ⟨20, _⟩ => ⟨S_, .i32⟩
  | .hbm, ⟨21, _⟩ => ⟨S1x2048, .i32⟩
  | .hbm, ⟨22, _⟩ => ⟨S1x2048, .i1⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x2048, .i1⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S512x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S512x2048, .f32⟩
  | .hbm, ⟨48, _⟩ => ⟨S512x2048, .f32⟩
  | .hbm, ⟨49, _⟩ => ⟨S_, .f32⟩
  | .hbm, ⟨50, _⟩ => ⟨S512x2048, .f32⟩
  | .hbm, ⟨51, _⟩ => ⟨S512x2048, .f32⟩
  | .hbm, ⟨52, _⟩ => ⟨S_, .f32⟩
  | .hbm, ⟨53, _⟩ => ⟨S512x2048, .f32⟩
  | .hbm, ⟨54, _⟩ => ⟨S512x2048, .f32⟩
  | .hbm, ⟨55, _⟩ => ⟨S512x2048, .f32⟩
  | .hbm, ⟨56, _⟩ => ⟨S_, .f32⟩
  | .hbm, ⟨57, _⟩ => ⟨S512x2048, .f32⟩
  | .hbm, ⟨58, _⟩ => ⟨S512x2048, .f32⟩
  | .hbm, ⟨59, _⟩ => ⟨S512x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S512x2048, .f32⟩
  | .hbm, ⟨64, _⟩ => ⟨S512x2048, .f32⟩
  | .hbm, ⟨65, _⟩ => ⟨S_, .f32⟩
  | .hbm, ⟨66, _⟩ => ⟨S512x2048, .f32⟩
  | .hbm, ⟨67, _⟩ => ⟨S512x2048, .f32⟩
  | .hbm, ⟨68, _⟩ => ⟨S_, .f32⟩
  | .hbm, ⟨69, _⟩ => ⟨S512x2048, .f32⟩
  | .hbm, ⟨70, _⟩ => ⟨S512x2048, .f32⟩
  | .hbm, ⟨71, _⟩ => ⟨S512x2048, .i1⟩
  | .hbm, ⟨72, _⟩ => ⟨S512x2048, .f32⟩
  | .hbm, ⟨73, _⟩ => ⟨S_, .f32⟩
  | .hbm, ⟨74, _⟩ => ⟨S512x2048, .f32⟩
  | .hbm, ⟨75, _⟩ => ⟨S512x2048, .f32⟩
  | .hbm, ⟨76, _⟩ => ⟨S512x2048, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S512x2048, .f32⟩
  | .hbm, ⟨81, _⟩ => ⟨S512x2048, .f32⟩
  | .hbm, ⟨82, _⟩ => ⟨S_, .f32⟩
  | .hbm, ⟨83, _⟩ => ⟨S512x2048, .f32⟩
  | .hbm, ⟨84, _⟩ => ⟨S512x2048, .f32⟩
  | .hbm, ⟨85, _⟩ => ⟨S_, .f32⟩
  | .hbm, ⟨86, _⟩ => ⟨S512x2048, .f32⟩
  | .hbm, ⟨87, _⟩ => ⟨S512x2048, .f32⟩
  | .hbm, ⟨88, _⟩ => ⟨S512x2048, .f32⟩
  | .hbm, ⟨89, _⟩ => ⟨S512x4096, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_call2_v0 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_cst_5 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_cst_9 : Ref sig .tc := ⟨.hbm, 61, rfl⟩
abbrev main_call6_v0 : Ref sig .tc := ⟨.hbm, 62, rfl⟩
abbrev main_call6_v1 : Ref sig .tc := ⟨.hbm, 63, rfl⟩
abbrev main_call6_v2 : Ref sig .tc := ⟨.hbm, 64, rfl⟩
abbrev main_call6_v3 : Ref sig .tc := ⟨.hbm, 65, rfl⟩
abbrev main_call6_v4 : Ref sig .tc := ⟨.hbm, 66, rfl⟩
abbrev main_v37 : Ref sig .tc := ⟨.hbm, 67, rfl⟩
abbrev main_cst_10 : Ref sig .tc := ⟨.hbm, 68, rfl⟩
abbrev main_v38 : Ref sig .tc := ⟨.hbm, 69, rfl⟩
abbrev main_v39 : Ref sig .tc := ⟨.hbm, 70, rfl⟩
abbrev main_call7_v0 : Ref sig .tc := ⟨.hbm, 71, rfl⟩
abbrev main_v40 : Ref sig .tc := ⟨.hbm, 72, rfl⟩
abbrev main_cst_11 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_12 : Ref sig .tc := ⟨.hbm, 77, rfl⟩
abbrev main_cst_13 : Ref sig .tc := ⟨.hbm, 78, rfl⟩
abbrev main_call9_v0 : Ref sig .tc := ⟨.hbm, 79, rfl⟩
abbrev main_call9_v1 : Ref sig .tc := ⟨.hbm, 80, rfl⟩
abbrev main_call9_v2 : Ref sig .tc := ⟨.hbm, 81, rfl⟩
abbrev main_call9_v3 : Ref sig .tc := ⟨.hbm, 82, rfl⟩
abbrev main_call9_v4 : Ref sig .tc := ⟨.hbm, 83, rfl⟩
abbrev main_v44 : Ref sig .tc := ⟨.hbm, 84, rfl⟩
abbrev main_cst_14 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩

abbrev nD : Nat := 1
abbrev τ : Topo := Topo.v7x

variable {F : FTy → Type} [FloatOps F]
-- ==== Proof.ProtoKernelIdeal.lean ====
/-
# 01_k — the exchange protocol of the kernel on the 2 x 2 x 4 mesh

Device `c` stands at `(x, y, z) = (c / 8, c / 4 % 2, c % 4)`. Its partners are `xp c` (other `x`), `yp c` (other `y`)
and `zp c` (the `z` that differs in its lowest bit). Every semaphore runs one round.

* barrier cell of `c`: `c` waits for 3 units, one from each partner. The `x` partner's unit hands over that partner's
  `x_recv` buffer, the `y` partner's its `yk_recv` buffer, the `z` partner's its `z_recv` buffer.
* ten hops, numbered `0..3` (a quarter of the quantised half to the `x` partner), `4..7` (that quarter, once received,
  forwarded to the `z` partner) and `8, 9` (half of the quantised own columns to the `y` partner). Each hop signals a
  departure cell of its sender and an arrival cell of its receiver with the credit of the rows it moves. A departure
  gives back the source rows, an arrival the landed rows, at the contents named here (`sendX`, `landX`, …).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's rounds: the three duties of a barrier cell are the three partners; a transfer's cell has duty `0`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Partners -/

/-- The partner with the other `x`. -/
def xp (c : Dev nD) : Dev nD := ⟨(c.val + 8) % 16, Nat.mod_lt _ (by decide)⟩
/-- The partner with the other `y`. -/
def yp (c : Dev nD) : Dev nD := ⟨(8 * (c.val / 8) + (c.val + 4) % 8) % 16, Nat.mod_lt _ (by decide)⟩
/-- The partner whose `z` differs in the lowest bit. -/
def zp (c : Dev nD) : Dev nD := ⟨(2 * (c.val / 2) + (c.val + 1) % 2) % 16, Nat.mod_lt _ (by decide)⟩

theorem xp_xp (c : Dev nD) : xp (xp c) = c := by revert c; decide
theorem yp_yp (c : Dev nD) : yp (yp c) = c := by revert c; decide
theorem zp_zp (c : Dev nD) : zp (zp c) = c := by revert c; decide

theorem dev1_eq (c : Dev nD) : (⟨k0_dev1 c, k0_dev1_lt c⟩ : Dev nD) = xp c := by revert c; decide
theorem dev2_eq (c : Dev nD) : (⟨k0_dev2 c, k0_dev2_lt c⟩ : Dev nD) = yp c := by revert c; decide
theorem dev3_eq (c : Dev nD) : (⟨k0_dev3 c, k0_dev3_lt c⟩ : Dev nD) = zp c := by revert c; decide
theorem dev4_eq (c : Dev nD) : (⟨k0_dev4 c, k0_dev4_lt c⟩ : Dev nD) = xp c := by revert c; decide
theorem dev5_eq (c : Dev nD) : (⟨k0_dev5 c, k0_dev5_lt c⟩ : Dev nD) = xp c := by revert c; decide
theorem dev6_eq (c : Dev nD) : (⟨k0_dev6 c, k0_dev6_lt c⟩ : Dev nD) = xp c := by revert c; decide
theorem dev7_eq (c : Dev nD) : (⟨k0_dev7 c, k0_dev7_lt c⟩ : Dev nD) = xp c := by revert c; decide
theorem dev8_eq (c : Dev nD) : (⟨k0_dev8 c, k0_dev8_lt c⟩ : Dev nD) = yp c := by revert c; decide
theorem dev9_eq (c : Dev nD) : (⟨k0_dev9 c, k0_dev9_lt c⟩ : Dev nD) = zp c := by revert c; decide
theorem dev10_eq (c : Dev nD) : (⟨k0_dev10 c, k0_dev10_lt c⟩ : Dev nD) = zp c := by revert c; decide
theorem dev11_eq (c : Dev nD) : (⟨k0_dev11 c, k0_dev11_lt c⟩ : Dev nD) = yp c := by revert c; decide
theorem dev12_eq (c : Dev nD) : (⟨k0_dev12 c, k0_dev12_lt c⟩ : Dev nD) = zp c := by revert c; decide
theorem dev13_eq (c : Dev nD) : (⟨k0_dev13 c, k0_dev13_lt c⟩ : Dev nD) = zp c := by revert c; decide

/-- Hop `j`'s receiver, and, the partners being mutual, the sender of the hop `j` that arrives. -/
def peer (j : Fin 10) (c : Dev nD) : Dev nD := if j.val < 4 then xp c else if j.val < 8 then zp c else yp c
theorem peer_peer (j : Fin 10) (c : Dev nD) : peer j (peer j c) = c := by
  unfold peer; split
  · exact xp_xp c
  · split
    · exact zp_zp c
    · exact yp_yp c

/-- The partner behind barrier duty `d`: 0 the `x`, 1 the `y`, 2 the `z` partner. -/
def bpeer (d : Fin 3) (c : Dev nD) : Dev nD := match d with | 0 => xp c | 1 => yp c | 2 => zp c
theorem bpeer_bpeer (d : Fin 3) (c : Dev nD) : bpeer d (bpeer d c) = c := by
  fin_cases d
  · exact xp_xp c
  · exact yp_yp c
  · exact zp_zp c

/-! ## Cells -/

/-- The runtime's barrier semaphore. -/
abbrev barS : Sem sig := (SemArray.scalar (sig.barrier 0 rfl) : Sems sig S_).sem
/-- The kernel's `k`-th own transfer semaphore: 0–3 departures and 4–7 arrivals of the `x` hops, 8–11 and 12–15 those of
    the `z` hops, 16, 17 and 18, 19 those of the `y` hops. -/
def dsem (k : Fin 20) : DmaSem sig := ⟨3 + k.val, by have := k.isLt; show 3 + k.val < 23; omega⟩
theorem dsem_inj {a b : Fin 20} (h : dsem a = dsem b) : a = b := by
  have := congrArg Fin.val h; simp only [dsem] at this; exact Fin.ext (by omega)

abbrev barCell (c : Dev nD) : GSem nD τ sig := ((c : Thread nD τ), .reg barS)
abbrev dcell (c : Dev nD) (k : Fin 20) : GSem nD τ sig := ((c : Thread nD τ), .dma (dsem k))

abbrev osem : Fin 20 → SemLoc sig := fun k => .dma (dsem k)
/-- The cells by one index: the barrier, then the twenty transfer semaphores. -/
abbrev csem : Option (Fin 20) → SemLoc sig := fun | none => .reg barS | some k => .dma (dsem k)
abbrev kcell (ck : Dev nD × Option (Fin 20)) : GSem nD τ sig := ((ck.1 : Thread nD τ), csem ck.2)

/-- Hop `j`'s departure cell (at its sender) and its arrival cell (at its receiver). -/
def sd (j : Fin 10) : Fin 20 := ![0, 1, 2, 3, 8, 9, 10, 11, 16, 17] j
def rv (j : Fin 10) : Fin 20 := ![4, 5, 6, 7, 12, 13, 14, 15, 18, 19] j
theorem rv_inj {i j : Fin 10} (h : rv i = rv j) : i = j := by revert i j; decide

/-! ## Rows, and buffers glued from pieces -/

abbrev r64 (o : ℕ) (h : ∀ a, (![o, 0] : Fin 2 → ℕ) a + S64x1024.size a ≤ S256x1024.size a) : Rect S256x1024 :=
  Rect.unit (s := S256x1024) ![o, 0] S64x1024.size h
abbrev r128 (o : ℕ) (h : ∀ a, (![o, 0] : Fin 2 → ℕ) a + S128x1024.size a ≤ S256x1024.size a) : Rect S256x1024 :=
  Rect.unit (s := S256x1024) ![o, 0] S128x1024.size h

/-- The `i`-th block of `h` rows. -/
def rows (h i : ℕ) : Finset S256x1024.Idx := Finset.univ.filter fun j => (j 0).val / h = i

theorem mem_rows {h i : ℕ} {j : S256x1024.Idx} : j ∈ rows h i ↔ (j 0).val / h = i := by
  simp only [rows, Finset.mem_filter, Finset.mem_univ, true_and]

theorem r64_set (o i : ℕ) (h) (ho : o = 64 * i) : (r64 o h).set = rows 64 i := by
  ext j
  rw [Rect.mem_set_unit, mem_rows]
  have h1 : (j 1).val < 1024 := (j 1).isLt
  constructor
  · intro hj; have := hj 0
    simp only [Matrix.cons_val_zero] at this
    omega
  · intro hj a
    fin_cases a
    · show o ≤ (j 0).val ∧ (j 0).val < o + 64; omega
    · show 0 ≤ (j 1).val ∧ (j 1).val < 0 + 1024; omega

theorem r128_set (o i : ℕ) (h) (ho : o = 128 * i) : (r128 o h).set = rows 128 i := by
  ext j
  rw [Rect.mem_set_unit, mem_rows]
  have h1 : (j 1).val < 1024 := (j 1).isLt
  constructor
  · intro hj; have := hj 0
    simp only [Matrix.cons_val_zero] at this
    omega
  · intro hj a
    fin_cases a
    · show o ≤ (j 0).val ∧ (j 0).val < o + 128; omega
    · show 0 ≤ (j 1).val ∧ (j 1).val < 0 + 1024; omega

theorem rows_univ64 : (Finset.univ : Finset (Fin 4)).biUnion (fun i => rows 64 i.val) = Finset.univ := by
  ext j; simp only [Finset.mem_biUnion, Finset.mem_univ, true_and, iff_true, mem_rows]
  have : (j 0).val < 256 := (j 0).isLt
  exact ⟨⟨(j 0).val / 64, by omega⟩, rfl⟩
theorem rows_univ128 : (Finset.univ : Finset (Fin 2)).biUnion (fun i => rows 128 i.val) = Finset.univ := by
  ext j; simp only [Finset.mem_biUnion, Finset.mem_univ, true_and, iff_true, mem_rows]
  have : (j 0).val < 256 := (j 0).isLt
  exact ⟨⟨(j 0).val / 128, by omega⟩, rfl⟩
theorem rows_disj (h : ℕ) {n : ℕ} : ∀ i ∈ (Finset.univ : Finset (Fin n)), ∀ j ∈ (Finset.univ : Finset (Fin n)), i ≠ j → Disjoint (rows h i.val) (rows h j.val) := by
  intro i _ j _ hij
  rw [Finset.disjoint_left]; intro a ha hb
  rw [mem_rows] at ha hb
  exact hij (Fin.ext (ha.symm.trans hb))

/-- Four pieces of 64 rows, one under the other. -/
def glue64 {T : Type} (p : Fin 4 → S64x1024.Idx → T) : S256x1024.Idx → T := fun j =>
  p ⟨(j 0).val / 64, by have : (j 0).val < 256 := (j 0).isLt; omega⟩
    (fun a => match a with
      | ⟨0, _⟩ => ⟨(j 0).val % 64, Nat.mod_lt _ (by decide)⟩
      | ⟨1, _⟩ => ⟨(j 1).val, (j 1).isLt⟩)
/-- Two pieces of 128 rows, one under the other. -/
def glue128 {T : Type} (p : Fin 2 → S128x1024.Idx → T) : S256x1024.Idx → T := fun j =>
  p ⟨(j 0).val / 128, by have : (j 0).val < 256 := (j 0).isLt; omega⟩
    (fun a => match a with
      | ⟨0, _⟩ => ⟨(j 0).val % 128, Nat.mod_lt _ (by decide)⟩
      | ⟨1, _⟩ => ⟨(j 1).val, (j 1).isLt⟩)

/-- A glued buffer read at a block's rows is the piece. -/
theorem glue64_emb {T : Type} (p : Fin 4 → S64x1024.Idx → T) (o : ℕ) (i : Fin 4) (h) (ho : o = 64 * i.val) (x : S64x1024.Idx) :
    glue64 p ((r64 o h).emb x) = p i x := by
  have hx : (x 0).val < 64 := (x 0).isLt
  have e0 : (((r64 o h).emb x) 0).val = o + (x 0).val := by rw [Rect.emb_apply]; show o + 1 * (x 0).val = _; omega
  have e1 : (((r64 o h).emb x) 1).val = (x 1).val := by rw [Rect.emb_apply]; show 0 + 1 * (x 1).val = _; omega
  unfold glue64
  have hi : (⟨(((r64 o h).emb x) 0).val / 64, by rw [e0]; have := i.isLt; omega⟩ : Fin 4) = i := Fin.ext (by show (((r64 o h).emb x) 0).val / 64 = i.val; rw [e0]; omega)
  rw [hi]
  congr 1
  funext a
  fin_cases a
  · exact Fin.ext (by show (((r64 o h).emb x) 0).val % 64 = (x 0).val; rw [e0]; omega)
  · exact Fin.ext e1
theorem glue128_emb {T : Type} (p : Fin 2 → S128x1024.Idx → T) (o : ℕ) (i : Fin 2) (h) (ho : o = 128 * i.val) (x : S128x1024.Idx) :
    glue128 p ((r128 o h).emb x) = p i x := by
  have hx : (x 0).val < 128 := (x 0).isLt
  have e0 : (((r128 o h).emb x) 0).val = o + (x 0).val := by rw [Rect.emb_apply]; show o + 1 * (x 0).val = _; omega
  have e1 : (((r128 o h).emb x) 1).val = (x 1).val := by rw [Rect.emb_apply]; show 0 + 1 * (x 1).val = _; omega
  unfold glue128
  have hi : (⟨(((r128 o h).emb x) 0).val / 128, by rw [e0]; have := i.isLt; omega⟩ : Fin 2) = i := Fin.ext (by show (((r128 o h).emb x) 0).val / 128 = i.val; rw [e0]; omega)
  rw [hi]
  congr 1
  funext a
  fin_cases a
  · exact Fin.ext (by show (((r128 o h).emb x) 0).val % 128 = (x 0).val; rw [e0]; omega)
  · exact Fin.ext e1

/-- Writing `w` through a rectangle of a whole buffer leaves, on the rectangle, what `g` holds there, when `w` is `g` read at the rectangle. -/
theorem write_slice_whole (b : Ref sig .tc) (r : Rect b.ty.shape) (f g : b.ty.Contents (Elt F)) (w : r.shape.Idx → Elt F b.ty.elt)
    (h : ∀ x, w x = g (r.emb x)) : ∀ j ∈ r.set, ((View.whole b).slice r).write (Elt F) f w Finset.univ j = g j := by
  intro j hj
  have hj' : j ∈ ((View.whole b).slice r).set := by rw [View.set_slice_whole]; exact hj
  obtain ⟨x, -, rfl⟩ := Finset.mem_map.mp hj'
  refine (View.write_emb_of_mem (v := (View.whole b).slice r) f w (Finset.mem_univ x)).trans ?_
  rw [h x]
  rfl

end Cert.KernelIdealProof

end
-- ==== Proof.SchedKernelIdeal.lean ====
/-
# 01_k — the schedule: contents, payloads, debts and levels
-/
module

public import proofs.«01_k».proof.Proof.ProtoKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- The blocks the pipeline stages: the device's rows of `x` and of `dy`. -/
def xstg (c : Dev nD) : (cc0_stg0_0 : Ref sig .tc).ty.Contents (Elt F) := iblk m c 0 t0_0
def dystg (c : Dev nD) : (cc0_stg1_0 : Ref sig .tc).ty.Contents (Elt F) := iblk m c 1 t0_0

/-- The kernel's words: its `x`, its `y`, its `z` and the lowest bit of its `z`. -/
abbrev wx (c : Dev nD) : BitVec 32 := Scalar.remsi (Scalar.divsi (Dev.word c) 8#32) 2#32
abbrev wy (c : Dev nD) : BitVec 32 := Scalar.remsi (Scalar.divsi (Dev.word c) 4#32) 2#32
abbrev wz (c : Dev nD) : BitVec 32 := Scalar.remsi (Scalar.divsi (Dev.word c) 1#32) 4#32
abbrev wten : BitVec 32 := Scalar.select (Scalar.cmpi .eq 2#32 0#32) 1#32 2#32
abbrev wrem (c : Dev nD) : BitVec 32 := Scalar.remsi (wz c) wten
abbrev wr (c : Dev nD) : BitVec 32 :=
  Scalar.select (Scalar.andi (Scalar.xori (Scalar.cmpi .slt (wrem c) 0#32) (Scalar.cmpi .slt wten 0#32)) (Scalar.cmpi .ne (wrem c) 0#32))
    (Scalar.addi (wrem c) wten) (wrem c)

/-- The operands of the kernel's products: the kept and the sent columns of `x`, the columns of `dy` exchanged along `x`
    (by the parity of `z`) and along `y`. -/
def xkeep (c : Dev nD) : FVec F S512x256 .bf16 := k0_pay3 (wx c) (xstg m c)
def xsend (c : Dev nD) : FVec F S512x256 .bf16 := k0_pay4 (wx c) (xstg m c)
def dyr (c : Dev nD) : FVec F S512x1024 .bf16 := k0_pay5 (wr c) (dystg m c)
def dyh (c : Dev nD) : FVec F S512x1024 .bf16 := k0_pay6 (wy c) (dystg m c)

/-- The four quantised quarters sent to the `x` partner, and the two quantised halves sent to the `y` partner. -/
def pieceX (c : Dev nD) (i : Fin 4) : S64x1024.Idx → Elt F .i8 := match i with
  | 0 => k0_pay8 (k0_pay7 (wx c) (wr c) (xstg m c) (dystg m c))
  | 1 => k0_pay9 (xsend m c) (dyr m c)
  | 2 => k0_pay10 (xsend m c) (dyr m c)
  | 3 => k0_pay12 (k0_pay11 (xsend m c) (dyr m c)) (Scalar.ofBits .f32 0x3F7E0000#32)
def pieceY (c : Dev nD) (i : Fin 2) : S128x1024.Idx → Elt F .i8 := match i with
  | 0 => k0_pay14 (xkeep m c) (dyh m c)
  | 1 => k0_pay18 (k0_pay16 (xkeep m c) (dyh m c)) (Scalar.ofBits .f32 0x42FE0000#32) k0_pay17

/-- What device `c` sends along `x` and along `y`, and what lands in its three receive buffers. -/
def sendX (c : Dev nD) : S256x1024.Idx → Elt F .i8 := glue64 (pieceX m c)
def sendY (c : Dev nD) : S256x1024.Idx → Elt F .i8 := glue128 (pieceY m c)
def landX (c : Dev nD) : S256x1024.Idx → Elt F .i8 := sendX m (xp c)
def landZ (c : Dev nD) : S256x1024.Idx → Elt F .i8 := landX m (zp c)
def landY (c : Dev nD) : S256x1024.Idx → Elt F .i8 := sendY m (yp c)

/-! ## The schedule -/

/-- The credit of 64 rows and of 128 rows of an 8-bit buffer. -/
def N64 : ℕ := RefSig.tileCredit S64x1024 .i8
def N128 : ℕ := RefSig.tileCredit S128x1024 .i8
theorem N64_pos : 0 < N64 := RefSig.tileCredit_pos _ _ (by decide)
theorem N128_pos : 0 < N128 := RefSig.tileCredit_pos _ _ (by decide)
theorem credit64 {sp : Space} (v : View sig .tc sp S64x1024 .i8) : v.dmaCredit = N64 := rfl
theorem credit128 {sp : Space} (v : View sig .tc sp S128x1024 .i8) : v.dmaCredit = N128 := rfl
attribute [irreducible] N64 N128

/-- Transfer cell `k`'s amount. -/
def Nd (k : ℕ) : ℕ := if k < 16 then N64 else N128
theorem Nd_pos (k : ℕ) : 0 < Nd k := by unfold Nd; split; exacts [N64_pos, N128_pos]
theorem Nd_sd_rv (j : Fin 10) : Nd (sd j).val = Nd (rv j).val := by
  have h : ((sd j).val < 16 ↔ (rv j).val < 16) := by revert j; decide
  unfold Nd; by_cases hs : (sd j).val < 16
  · rw [if_pos hs, if_pos (h.mp hs)]
  · rw [if_neg hs, if_neg (fun hr => hs (h.mpr hr))]

/-- Rows of each scratch buffer of device `c` at share `q` and contents `f`. -/
def p0 (c : Dev nD) (I : Finset S256x1024.Idx) (q : PosShare TreeShare) (f : S256x1024.Idx → Elt F .i8) : sProp 𝕄 := ((c : Thread nD τ).loc cc0_scratch0) ↦[I]{q} f
def p1 (c : Dev nD) (I : Finset S256x1024.Idx) (q : PosShare TreeShare) (f : S256x1024.Idx → Elt F .i8) : sProp 𝕄 := ((c : Thread nD τ).loc cc0_scratch1) ↦[I]{q} f
def p2 (c : Dev nD) (I : Finset S256x1024.Idx) (q : PosShare TreeShare) (f : S256x1024.Idx → Elt F .i8) : sProp 𝕄 := ((c : Thread nD τ).loc cc0_scratch2) ↦[I]{q} f
def p3 (c : Dev nD) (I : Finset S256x1024.Idx) (q : PosShare TreeShare) (f : S256x1024.Idx → Elt F .i8) : sProp 𝕄 := ((c : Thread nD τ).loc cc0_scratch3) ↦[I]{q} f
def p4 (c : Dev nD) (I : Finset S256x1024.Idx) (q : PosShare TreeShare) (f : S256x1024.Idx → Elt F .i8) : sProp 𝕄 := ((c : Thread nD τ).loc cc0_scratch4) ↦[I]{q} f

/-- What completing transfer cell `k` of device `c` hands `c`. -/
def dpay (c : Dev nD) (k : ℕ) : sProp 𝕄 :=
  if k < 4 then p0 c (rows 64 k) fullShare (sendX m c)
  else if k < 8 then p1 c (rows 64 (k - 4)) fullShare (landX m c)
  else if k < 12 then p1 c (rows 64 (k - 8)) fullShare.left (landX m c)
  else if k < 16 then p2 c (rows 64 (k - 12)) fullShare (landZ m c)
  else if k < 18 then p3 c (rows 128 (k - 16)) fullShare (sendY m c)
  else p4 c (rows 128 (k - 18)) fullShare (landY m c)

/-- What the partner behind duty `d` hands `c` with its barrier unit: its landing buffer for `c`'s hops. -/
def barPay (c : Dev nD) (d : Fin 3) : sProp 𝕄 := match d with
  | 0 => iprop(∃ f, p1 (xp c) Finset.univ fullShare f)
  | 1 => iprop(∃ f, p4 (yp c) Finset.univ fullShare f)
  | 2 => iprop(∃ f, p2 (zp c) Finset.univ fullShare f)

omit [FloatOps F] in
instance p0_storable (c : Dev nD) (I) (q) (f) : BI.Storable (upEmb : UEmb _ 𝕄) (p0 (F := F) c I q f) := by unfold p0; infer_instance
omit [FloatOps F] in
instance p1_storable (c : Dev nD) (I) (q) (f) : BI.Storable (upEmb : UEmb _ 𝕄) (p1 (F := F) c I q f) := by unfold p1; infer_instance
omit [FloatOps F] in
instance p2_storable (c : Dev nD) (I) (q) (f) : BI.Storable (upEmb : UEmb _ 𝕄) (p2 (F := F) c I q f) := by unfold p2; infer_instance
omit [FloatOps F] in
instance p3_storable (c : Dev nD) (I) (q) (f) : BI.Storable (upEmb : UEmb _ 𝕄) (p3 (F := F) c I q f) := by unfold p3; infer_instance
omit [FloatOps F] in
instance p4_storable (c : Dev nD) (I) (q) (f) : BI.Storable (upEmb : UEmb _ 𝕄) (p4 (F := F) c I q f) := by unfold p4; infer_instance
instance dpay_storable (c : Dev nD) (k : ℕ) : BI.Storable (upEmb : UEmb _ 𝕄) (dpay (F := F) m c k) := by
  unfold dpay; (repeat' split) <;> infer_instance
omit [FloatOps F] in
instance barPay_storable (c : Dev nD) (d : Fin 3) : BI.Storable (upEmb : UEmb _ 𝕄) (barPay (F := F) c d) := by
  unfold barPay; split <;> infer_instance

/-- One round: a barrier cell has three duties of one unit, an own transfer cell one duty of its credit. -/
def Rd : Rounds.Schedule (GSem nD τ sig) (Fin 3) 𝕄 where
  duties g r := if r = 0 ∧ g.1.2 = .tc then
      (match g.2 with
        | .reg s => if s = barS then Finset.univ else ∅
        | .dma s => if 3 ≤ s.val then {0} else ∅)
    else ∅
  unitless _ := False
  amount g _ _ := match g.2 with
    | .reg _ => 1
    | .dma s => Nd (s.val - 3)
  payload g _ d := match g.2 with
    | .reg _ => barPay g.1.1 d
    | .dma s => dpay m g.1.1 (s.val - 3)
  amount_pos g _ _ _ := by
    rcases g.2 with s | s
    · exact Nat.one_pos
    · exact Nd_pos _

instance Rd_payload_storable (g : GSem nD τ sig) (r : ℕ) (d : Fin 3) :
    BI.Storable (upEmb : UEmb _ 𝕄) ((Rd (F := F) m).payload g r d) := by
  dsimp only [Rd]; split <;> infer_instance

section Sched
variable (c : Dev nD) (k : Fin 20)

theorem dsem_val : (dsem k).val - 3 = k.val := Nat.add_sub_cancel_left 3 k.val

theorem duties_bar : (Rd (F := F) m).duties (barCell c) 0 = Finset.univ := by
  dsimp only [Rd]; rw [if_pos ⟨rfl, rfl⟩]; exact if_pos rfl
theorem duties_d : (Rd (F := F) m).duties (dcell c k) 0 = {0} := by
  dsimp only [Rd]; rw [if_pos ⟨rfl, rfl⟩]; exact if_pos (Nat.le_add_right 3 k.val)
theorem duties_later (g : GSem nD τ sig) : ∀ r, 1 ≤ r → (Rd (F := F) m).duties g r = ∅ :=
  fun r hr => by dsimp only [Rd]; exact if_neg fun h => by omega
theorem amount_bar (d : Fin 3) : (Rd (F := F) m).amount (barCell c) 0 d = 1 := rfl
theorem amount_d (d : Fin 3) : (Rd (F := F) m).amount (dcell c k) 0 d = Nd k.val := by
  show Nd ((dsem k).val - 3) = _; rw [dsem_val]
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d : (Rd (F := F) m).expect (dcell c k) 0 = Nd k.val := by
  unfold Schedule.expect Schedule.amountOf; rw [duties_d, Finset.sum_singleton, amount_d]
theorem payload_bar (d : Fin 3) : (Rd (F := F) m).payload (barCell c) 0 d = barPay c d := rfl
theorem payload_d (d : Fin 3) : (Rd (F := F) m).payload (dcell c k) 0 d = dpay m c k.val := by
  show dpay m c ((dsem k).val - 3) = _; rw [dsem_val]
/-- The barrier round's payloads: the three partners' landing buffers. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_d : bigSep ((Rd (F := F) m).duties (dcell c k) 0 \ ∅) (fun d => (Rd (F := F) m).payload (dcell c k) 0 d) = dpay m c k.val := by
  rw [Finset.sdiff_empty, duties_d, bigSep_singleton, payload_d]

end Sched

/-! ## What a device owes, and the levels -/

/-- The arrival credits of the hops of `l`, owed to their receivers; the head is the last summand. -/
def due (c : Dev nD) : List (Fin 10) → CellTallies nD τ sig Unit
  | [] => 0
  | j :: l => due c l + tallyAt (dcell (peer j c) (rv j)) () (Nd (rv j).val)

/-- The hops by family: along `x`, along `z`, along `y`. -/
def jx (i : Fin 4) : Fin 10 := ⟨i.val, by omega⟩
def jz (i : Fin 4) : Fin 10 := ⟨4 + i.val, by omega⟩
def jy (i : Fin 2) : Fin 10 := ⟨8 + i.val, by omega⟩
theorem peer_jx (i : Fin 4) (c : Dev nD) : peer (jx i) c = xp c := by unfold peer jx; exact if_pos i.isLt
theorem peer_jz (i : Fin 4) (c : Dev nD) : peer (jz i) c = zp c := by
  unfold peer jz; rw [if_neg (by simp)]; exact if_pos (by show 4 + i.val < 8; omega)
theorem peer_jy (i : Fin 2) (c : Dev nD) : peer (jy i) c = yp c := by
  unfold peer jy; rw [if_neg (by show ¬ 8 + i.val < 4; omega)]; exact if_neg (by show ¬ 8 + i.val < 8; omega)

/-- The hops in program order. -/
def order : List (Fin 10) := [jx 0, jx 1, jx 2, jx 3, jy 0, jz 0, jz 1, jy 1, jz 2, jz 3]

/-- What device `c` owes at launch: the hops, then the three barrier units, the first signal's last. -/
def O₃ (c : Dev nD) : CellTallies nD τ sig Unit := due c order
def O₂ (c : Dev nD) : CellTallies nD τ sig Unit := O₃ c + tallyAt (barCell (zp c)) () 1
def O₁ (c : Dev nD) : CellTallies nD τ sig Unit := O₂ c + tallyAt (barCell (yp c)) () 1
def O₀ (c : Dev nD) : CellTallies nD τ sig Unit := O₁ c + tallyAt (barCell (xp c)) () 1

def L (g : GSem nD τ sig) : Finset Unit := if g.1.2 = .tc then {()} else ∅
/-- Barrier cells at 1, arrivals along `x` at 2, the other arrivals at 3, everything else at 0. -/
def lvn (k : ℕ) : ℕ := if 4 ≤ k ∧ k < 8 then 2 else if 12 ≤ k ∧ k < 16 then 3 else if 18 ≤ k then 3 else 0
def lv (g : GSem nD τ sig) (_ : Unit) : ℕ := match g.2 with
  | .reg _ => 1
  | .dma s => if 3 ≤ s.val then lvn (s.val - 3) else 0

theorem L_of_ne (g : GSem nD τ sig) (h : g.1.2 ≠ .tc) : L g = ∅ := if_neg h
theorem L_tc (c : Dev nD) (sm : SemLoc sig) : L ((c : Thread nD τ), sm) = {()} := if_pos rfl
theorem lv_d (c : Dev nD) (k : Fin 20) : lv (dcell c k) () = lvn k.val := by
  show (if 3 ≤ (dsem k).val then lvn ((dsem k).val - 3) else 0) = _
  rw [if_pos (show 3 ≤ (dsem k).val from Nat.le_add_right 3 k.val), dsem_val]

theorem due_pos {c : Dev nD} {l : List (Fin 10)} {g : GSem nD τ sig} {u : Unit} (h : 0 < due c l g u) : ∃ j ∈ l, g = dcell (peer j c) (rv j) := by
  induction l with
  | nil => exact absurd h (Nat.lt_irrefl 0)
  | cons j l ih =>
    unfold due at h
    rw [Pi.add_apply, Finsupp.add_apply, tallyAt_apply] at h
    by_cases hg : g = dcell (peer j c) (rv j)
    · exact ⟨j, List.mem_cons_self, hg⟩
    · rw [if_neg (fun h' => hg h'.1)] at h
      obtain ⟨i, hi, e⟩ := ih h
      exact ⟨i, List.mem_cons_of_mem _ hi, e⟩

theorem O₀_pos {c : Dev nD} {g : GSem nD τ sig} {u : Unit} (h : 0 < O₀ c g u) :
    (∃ j, g = dcell (peer j c) (rv j)) ∨ ∃ d, g = barCell d := by
  unfold O₀ O₁ O₂ O₃ at h
  simp only [Pi.add_apply, Finsupp.add_apply, tallyAt_apply] at h
  by_contra hn
  rw [not_or, not_exists, not_exists] at hn
  rw [if_neg (fun h' => hn.2 _ h'.1), if_neg (fun h' => hn.2 _ h'.1), if_neg (fun h' => hn.2 _ h'.1)] at h
  simp only [Nat.add_zero] at h
  obtain ⟨j, -, e⟩ := due_pos h
  exact hn.1 j e

theorem lvn_rv (j : Fin 10) : 2 ≤ lvn (rv j).val := by revert j; decide

/-- While it still owes the hops of `l`, a device may wait on a cell below all of them. -/
theorem mayWait_due (c : Dev nD) (sm : SemLoc sig) (l : List (Fin 10)) (h : ∀ j ∈ l, lv ((c : Thread nD τ), sm) () < lvn (rv j).val) :
    (levAts L lv : sProp 𝕄) ⊢ MayWait (c : Thread nD τ) sm () (due c l) :=
  MayOwe.of_cut (L := L) (lev := lv) (lv ((c : Thread nD τ), sm) ())
    (fun p hp => by rw [Finset.mem_singleton.mp hp, L_tc]; exact Finset.mem_singleton_self _)
    (fun g u hg => by obtain ⟨j, -, rfl⟩ := due_pos hg; exact Finset.mem_singleton_self _)
    (fun p hp => by rw [Finset.mem_singleton.mp hp])
    (fun g u hg => by obtain ⟨j, hj, rfl⟩ := due_pos hg; rw [lv_d]; exact h j hj)

/-- The pipeline's waits on its staging cells: level 0, under everything owed at launch. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨j, rfl⟩ | ⟨d, rfl⟩ <;> exact Finset.mem_singleton_self _)
      (fun p hp => by rw [Finset.mem_singleton.mp hp]; show (if 3 ≤ q.val then lvn (q.val - 3) else 0) ≤ 0; rw [if_neg (by omega)])
      (fun g u hg => by
        rcases O₀_pos hg with ⟨j, rfl⟩ | ⟨d, rfl⟩
        · rw [lv_d]; have := lvn_rv j; omega
        · show 0 < 1; decide)
  · rw [MayWait_zero]; iintro -; iempintro

end Cert.KernelIdealProof

end
-- ==== Proof.StepsKernelIdeal.lean ====
/-
# 01_k — the kernel's steps: one rule for each kind of effect of the body
-/
module

public import proofs.«01_k».proof.Proof.SchedKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The facts every device keeps -/

/-- Every cell's invariant and that every cell has reached its round: what the devices share. -/
def recs (K : Dev nD × Option (Fin 20) → ℕ) : sProp 𝕄 :=
  iprop((bigSep Finset.univ fun ck : Dev nD × Option (Fin 20) => cellInv ER (Rd m) (K ck) (kcell ck))
    ∗ bigSep Finset.univ fun ck : Dev nD × Option (Fin 20) => reached ER (kcell ck) 0)

instance recs_persistent (K : Dev nD × Option (Fin 20) → ℕ) : BI.Persistent (recs m K) := by unfold recs; infer_instance

theorem recs_at (K : Dev nD × Option (Fin 20) → ℕ) (ck : Dev nD × Option (Fin 20)) :
    recs m K ⊢ iprop(cellInv ER (Rd m) (K ck) (kcell ck) ∗ reached ER (kcell ck) 0) :=
  BI.sep_mono (bigSep_elim (Finset.mem_univ ck)) (bigSep_elim (Finset.mem_univ ck))

/-- What device `c` still owes, whatever waits it has made. -/
def ow (c : Dev nD) (O : CellTallies nD τ sig Unit) : sProp 𝕄 := iprop(∃ W, owes (c : Thread nD τ) O W)

/-- What hop `j` is paid with: the tokens of its two duties and its departure cell's position. -/
def tk (c : Dev nD) (j : Fin 10) : sProp 𝕄 :=
  iprop(dutyTok ER (dcell c (sd j)) 0 0 ∗ dutyTok ER (dcell (peer j c) (rv j)) 0 0 ∗ atPos ER (dcell c (sd j)) 0 ∅ 0)
/-- What a wait on transfer cell `k` takes: the cell's position and its credit. -/
def rx (c : Dev nD) (k : Fin 20) : sProp 𝕄 := iprop(atPos ER (dcell c k) 0 ∅ 0 ∗ cred (tallyAt (dcell c k) () (Nd k.val)))
/-- A transfer cell after its wait, closed at zero. -/
def zv (c : Dev nD) (k : Fin 20) : sProp 𝕄 := semVal (dcell c k) 0

section Steps

variable (K : Dev nD × Option (Fin 20) → ℕ) (c : Dev nD)
variable {α : Type} {Q : α → sProp (MT nD τ sig Unit (Elt F) ℕ UU ℕ)}

/-- The signal to the partner behind duty `d`, handing over its payload. -/
theorem step_signal (d : Fin 3) (n : Dev nD) (hn : n = bpeer d c) {a : ℕ} (ha : 1 = a) (O : CellTallies nD τ sig Unit)
    {k : PUnit → Prog (TpuEff nD τ sig (Elt F) Λ₀ .tc) α} :
    iprop(recs m K ∗ ow c (O + tallyAt (barCell (bpeer d c)) () 1) ∗ dutyTok ER (barCell (bpeer d c)) 0 d ∗ barPay (bpeer d c) d)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  unfold ow
  iintro ⟨#HR, ⟨%W, HO⟩, Ht, Hp⟩ Hk
  ihave H := (recs_at m K (bpeer d c, none)) $$ HR
  icases H with ⟨#HI, #Hr⟩
  iapply (Rounds.wp_signal 𝒱₀ ER (Rd m) (c : Thread nD τ) none (dst := (bpeer d c : Thread nD τ)) (κ := K (bpeer d c, none))
      (d := d) (by rw [duties_bar]; exact Finset.mem_univ _) (amount_bar m (bpeer d c) d) () O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The barrier wait: the three partners' landing buffers come with it, and the cell closes. -/
theorem step_barrier {a : ℕ} (ha : a = 3) (l : List (Fin 10)) {k : PUnit → Prog (TpuEff nD τ sig (Elt F) Λ₀ .tc) α} :
    iprop(recs m K ∗ levAts L lv ∗ ow c (due c l) ∗ atPos ER (barCell c) 0 ∅ 0 ∗ cred (tallyAt (barCell c) () 3))
      ⊢ iprop(((ow c (due c l) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold ow
  iintro ⟨#HR, #Hlev, ⟨%W, HO⟩, Hat, Hc⟩ Hk
  ihave H := (recs_at m K (c, none)) $$ HR
  icases H with ⟨#HI, #Hr⟩
  iapply (Rounds.wp_wait_rest_token 𝒱₀ ER (Rd m) (c : Thread nD τ) none (κ := K (c, none))
      (wpE_semWait_eq 𝒱₀ (c : Thread nD τ) none Set.univ) (Set.mem_univ _) () (O := due c l) (W := W) (R := 0) (m := 0) (T := ∅)
      (by rw [expect_bar])) $$ [Hc HO Hat]
  · isplitr; · iexact HI
    isplitl [Hc]; · iexact Hc
    isplitl [HO]; · iexact HO
    isplitr
    · iapply (mayWait_due c (.reg barS) l fun j _ => lt_of_lt_of_le (show 1 < 2 from by decide) (lvn_rv j)); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A wait on transfer cell `i` while the hops of `l` are still owed: its payload comes, and the cell closes. -/
theorem step_wait (i : Fin 20) (l : List (Fin 10)) (hl : ∀ j ∈ l, lvn i.val < lvn (rv j).val)
    {sp sp' : Space} {s : Shape} {e : EltTy} {sem : DmaSem sig} (hs : sem = dsem i)
    {src : Memref sig .tc sp s e} {dst : Memref sig .tc sp' s e} (hc : dst.view.dmaCredit = Nd i.val)
    {h₁ : src.view.WordExact} {h₂ : dst.view.WordExact} {k : PUnit → Prog (TpuEff nD τ sig (Elt F) Λ₀ .tc) α} :
    iprop(recs m K ∗ levAts L lv ∗ ow c (due c l) ∗ rx c i)
      ⊢ iprop(((ow c (due c l) ∗ zv c i ∗ dpay m c i.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h₁ h₂) k) Q) := by
  subst hs
  unfold ow rx zv
  rw [← hc]
  iintro ⟨#HR, #Hlev, ⟨%W, HO⟩, Hat, Hc⟩ Hk
  ihave H := (recs_at m K (c, some i)) $$ HR
  icases H with ⟨#HI, #Hr⟩
  iapply (Rounds.wp_wait_rest_token 𝒱₀ ER (Rd m) (c : Thread nD τ) none (κ := K (c, some i))
      (wpE_waitDma2_eq 𝒱₀ (c : Thread nD τ) none Set.univ) (Set.mem_univ _) () (O := due c l) (W := W) (R := 0) (m := 0) (T := ∅)
      (by rw [Nat.zero_add, expect_d, hc])) $$ [Hc HO Hat]
  · isplitr; · iexact HI
    isplitl [Hc]; · iexact Hc
    isplitl [HO]; · iexact HO
    isplitr
    · iapply (mayWait_due c (.dma (dsem i)) l fun j hj => by rw [lv_d]; exact hl j hj); iexact Hlev
    iexact Hat
  iintro ⟨HO, Hat, -, Hpay⟩
  ihave Hp := (Entails.of_eq (rest_d m c i)) $$ Hpay
  imod (Rounds.cell_close ER (Rd m) (Set.mem_univ (K (c, some i))) (fun h => h) (R := 0 + 1) (duties_later m (dcell c i))) $$ [Hat] with Hz
  · isplitr; · iexact HI
    iexact Hat
  iapply Hk
  isplitl [HO]; · iexists _; iexact HO
  isplitl [Hz]; · iexact Hz
  iexact Hp

/-- Hop `j`, from source rows at `fs` into the receiver's rows: what is owed shrinks by its arrival credit, and its
    departure cell can be waited on. -/
theorem step_hop (j : Fin 10) (l : List (Fin 10)) (n : Dev nD) (hn : n = peer j c) {s : Shape} {e : EltTy}
    {src dst : Memref sig .tc .vmem s e} {hsc : dst.view.ref.isScScratch = false} {sS sR : DmaSem sig}
    (hsS : sS = dsem (sd j)) (hsR : sR = dsem (rv j)) (hN : dst.view.dmaCredit = Nd (rv j).val)
    {hsrc : src.view.WordExact} {hdst : dst.view.WordExact}
    {hsem : DmaTarget.Typed .vmem (.dma sR) (.remote (Dev.tc n : Thread nD τ) dst (.dma sS) hsc)}
    {q : PosShare TreeShare} {fs : Buf (Elt F) (src.view.loc (c : Thread nD τ))} {P D : sProp 𝕄}
    (hP : P ⊢ (src.view.loc (c : Thread nD τ) ↦[src.view.set]{q} fs))
    (hD : D ⊢ iprop(∃ fd, dst.view.loc (peer j c : Thread nD τ) ↦[dst.view.set]{fullShare} fd))
    (hpay₁ : (src.view.loc (c : Thread nD τ) ↦[src.view.set]{q} fs) ⊢ dpay m c (sd j).val)
    (hpay₂ : ∀ fd, (dst.view.loc (peer j c : Thread nD τ) ↦[dst.view.set]{fullShare} (dst.view.write (Elt F) fd (src.view.read (Elt F) fs) Finset.univ))
      ⊢ dpay m (peer j c) (rv j).val)
    {k : PUnit → Prog (TpuEff nD τ sig (Elt F) Λ₀ .tc) α} :
    iprop(recs m K ∗ P ∗ D ∗ ow c (due c (j :: l)) ∗ tk c j)
      ⊢ iprop(((rx c (sd j) ∗ ow c (due c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn; subst hsS; subst hsR
  unfold ow rx tk
  iintro ⟨#HR, HP, HD, ⟨%W, HO⟩, Ht1, Ht2, Hat⟩ Hk
  ihave H1 := (recs_at m K (c, some (sd j))) $$ HR
  icases H1 with ⟨#HI1, #Hr1⟩
  ihave H2 := (recs_at m K (peer j c, some (rv j))) $$ HR
  icases H2 with ⟨#HI2, #Hr2⟩
  ihave HP := hP $$ HP
  ihave HD := hD $$ HD
  icases HD with ⟨%fd, HD⟩
  iapply (Rounds.wp_send_pointsTo 𝒱₀ ER (Rd m) (c : Thread nD τ) none (κ₁ := K (c, some (sd j))) (κ₂ := K (peer j c, some (rv j)))
    (sS := .dma (dsem (sd j))) (sem := .dma (dsem (rv j))) (r₁ := 0) (r₂ := 0) (d₁ := 0) (d₂ := 0) (fd := fd)
    (by rw [duties_d]; exact Finset.mem_singleton_self _) (by rw [duties_d]; exact Finset.mem_singleton_self _)
    () () (Nd (rv j).val) hN ((amount_d m c (sd j) 0).trans (Nd_sd_rv j)) (amount_d m (peer j c) (rv j) 0) (due c l) rfl (W := W)
    (by rw [payload_d]; exact hpay₁) (by rw [payload_d]; exact hpay₂ fd)) $$ [HP HD HO Ht1 Ht2]
  · isplitr; · iexact HI1
    isplitr; · iexact HI2
    isplitl [HP]; · iexact HP
    isplitl [HD]; · iexact HD
    isplitl [HO]; · iexact HO
    isplitl [Ht1]; · iexact Ht1
    isplitr; · iexact Hr1
    isplitl [Ht2]; · iexact Ht2
    iexact Hr2
  iintro ⟨Hc, HO⟩
  iapply Hk
  isplitl [Hat Hc]
  · isplitl [Hat]; · iexact Hat
    rw [Nd_sd_rv]; iexact Hc
  iexists W; iexact HO

end Steps

end Cert.KernelIdealProof

end
-- ==== Proof.HopsKernelIdeal.lean ====
/-
# 01_k — the stores into the send buffers, the hops by family, and the buffers cut into rows and joined again
-/
module

public import proofs.«01_k».proof.Proof.StepsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows of the buffers -/

abbrev a0 : Memref sig .tc .vmem S256x1024 .i8 := Memref.whole cc0_scratch0
abbrev a1 : Memref sig .tc .vmem S256x1024 .i8 := Memref.whole cc0_scratch1
abbrev a2 : Memref sig .tc .vmem S256x1024 .i8 := Memref.whole cc0_scratch2
abbrev a3 : Memref sig .tc .vmem S256x1024 .i8 := Memref.whole cc0_scratch3
abbrev a4 : Memref sig .tc .vmem S256x1024 .i8 := Memref.whole cc0_scratch4

/-- A buffer is its four quarters. -/
theorem cut64 (b : Ref sig .tc) (c : Dev nD) (q : PosShare TreeShare) (R : ℕ → Finset (Idx ((c : Thread nD τ).loc b)))
    (hU : (Finset.univ : Finset (Fin 4)).biUnion (fun i => R i.val) = Finset.univ)
    (hd : ∀ i ∈ (Finset.univ : Finset (Fin 4)), ∀ j ∈ (Finset.univ : Finset (Fin 4)), i ≠ j → Disjoint (R i.val) (R j.val))
    (f : Buf (Elt F) ((c : Thread nD τ).loc b)) :
    ((((c : Thread nD τ).loc b) ↦{q} f) : sProp 𝕄)
      = iprop((((c : Thread nD τ).loc b) ↦[R 0]{q} f) ∗ (((c : Thread nD τ).loc b) ↦[R 1]{q} f)
          ∗ (((c : Thread nD τ).loc b) ↦[R 2]{q} f) ∗ (((c : Thread nD τ).loc b) ↦[R 3]{q} f)) := by
  rw [← hU, pointsTo_biUnion _ _ hd, bigSep_univ_eq_bigSepL [0, 1, 2, 3] (by decide) (by decide)]
  rfl
/-- A buffer is its two halves. -/
theorem cut128 (b : Ref sig .tc) (c : Dev nD) (q : PosShare TreeShare) (R : ℕ → Finset (Idx ((c : Thread nD τ).loc b)))
    (hU : (Finset.univ : Finset (Fin 2)).biUnion (fun i => R i.val) = Finset.univ)
    (hd : ∀ i ∈ (Finset.univ : Finset (Fin 2)), ∀ j ∈ (Finset.univ : Finset (Fin 2)), i ≠ j → Disjoint (R i.val) (R j.val))
    (f : Buf (Elt F) ((c : Thread nD τ).loc b)) :
    ((((c : Thread nD τ).loc b) ↦{q} f) : sProp 𝕄)
      = iprop((((c : Thread nD τ).loc b) ↦[R 0]{q} f) ∗ (((c : Thread nD τ).loc b) ↦[R 1]{q} f)) := by
  rw [← hU, pointsTo_biUnion _ _ hd, bigSep_univ_eq_bigSepL [0, 1] (by decide) (by decide)]
  rfl

theorem p0_cut (c : Dev nD) (q : PosShare TreeShare) (f) : p0 (F := F) c Finset.univ q f
    = iprop(p0 c (rows 64 (0 : Fin 4).val) q f ∗ p0 c (rows 64 (1 : Fin 4).val) q f ∗ p0 c (rows 64 (2 : Fin 4).val) q f ∗ p0 c (rows 64 (3 : Fin 4).val) q f) :=
  cut64 cc0_scratch0 c q (rows 64) rows_univ64 (rows_disj 64) f
theorem p1_cut (c : Dev nD) (q : PosShare TreeShare) (f) : p1 (F := F) c Finset.univ q f
    = iprop(p1 c (rows 64 (0 : Fin 4).val) q f ∗ p1 c (rows 64 (1 : Fin 4).val) q f ∗ p1 c (rows 64 (2 : Fin 4).val) q f ∗ p1 c (rows 64 (3 : Fin 4).val) q f) :=
  cut64 cc0_scratch1 c q (rows 64) rows_univ64 (rows_disj 64) f
theorem p2_cut (c : Dev nD) (q : PosShare TreeShare) (f) : p2 (F := F) c Finset.univ q f
    = iprop(p2 c (rows 64 (0 : Fin 4).val) q f ∗ p2 c (rows 64 (1 : Fin 4).val) q f ∗ p2 c (rows 64 (2 : Fin 4).val) q f ∗ p2 c (rows 64 (3 : Fin 4).val) q f) :=
  cut64 cc0_scratch2 c q (rows 64) rows_univ64 (rows_disj 64) f
theorem p3_cut (c : Dev nD) (q : PosShare TreeShare) (f) : p3 (F := F) c Finset.univ q f
    = iprop(p3 c (rows 128 (0 : Fin 2).val) q f ∗ p3 c (rows 128 (1 : Fin 2).val) q f) :=
  cut128 cc0_scratch3 c q (rows 128) rows_univ128 (rows_disj 128) f
theorem p4_cut (c : Dev nD) (q : PosShare TreeShare) (f) : p4 (F := F) c Finset.univ q f
    = iprop(p4 c (rows 128 (0 : Fin 2).val) q f ∗ p4 c (rows 128 (1 : Fin 2).val) q f) :=
  cut128 cc0_scratch4 c q (rows 128) rows_univ128 (rows_disj 128) f

/-- A quarter of the `x_recv` buffer, halved: one share for the forwarding copy, one for the kernel's own load. -/
theorem p1_halve (c : Dev nD) (I) (f) : p1 (F := F) c I fullShare f ⊣⊢ iprop(p1 c I fullShare.left f ∗ p1 c I fullShare.right f) :=
  pointsTo_share (PosShare.mem_left_op_right fullShare)

/-- What a rectangle's write leaves on the rectangle's elements is what `g` holds there, when the words written are `g` read at it. -/
theorem write_rows (b : Ref sig .tc) (c : Dev nD) (q : PosShare TreeShare) (r : Rect b.ty.shape) (R : Finset b.ty.shape.Idx) (hR : r.set = R)
    (f g : b.ty.Contents (Elt F)) (w : r.shape.Idx → Elt F b.ty.elt) (h : ∀ x, w x = g (r.emb x)) :
    ((((c : Thread nD τ).loc b) ↦[R]{q} (((View.whole b).slice r).write (Elt F) f w Finset.univ)) : sProp 𝕄)
      ⊢ (((c : Thread nD τ).loc b) ↦[R]{q} g) := by
  subst hR
  exact Entails.of_eq (pointsTo_congr (write_slice_whole b r f g w h))

/-! ## Stores into the send buffers -/

section Steps

variable (K : Dev nD × Option (Fin 20) → ℕ) (c : Dev nD)
variable {α : Type} {Q : α → sProp (MT nD τ sig Unit (Elt F) ℕ UU ℕ)}

/-- A quarter stored in the `x_send` buffer. -/
theorem step_put_x (i : Fin 4) (o : ℕ) (ho : o = 64 * i.val) (hb) {hl hx hm} {w : S64x1024.Idx → Elt F .i8} (hw : w = pieceX m c i) (f)
    {k : PUnit → Prog (TpuEff nD τ sig (Elt F) Λ₀ .tc) α} :
    p0 c (rows 64 i.val) fullShare f
      ⊢ iprop((p0 c (rows 64 i.val) fullShare (sendX m c) -∗ wp frame (wpE (defs₀ (F := F)) 𝒱₀ (c : Thread nD τ) none) Set.univ (k ⟨⟩) Q)
          -∗ wp frame (wpE (defs₀ (F := F)) 𝒱₀ (c : Thread nD τ) none) Set.univ
            (.op (.load a0 (r64 o hb).toLoadRect hl) fun _ => .op (.store a0 (r64 o hb) w Finset.univ hx hm) k) Q) := by
  have hsub : (a0.access (r64 o hb)).set ⊆ rows 64 i.val :=
    subset_of_eq ((View.set_slice_whole cc0_scratch0 (r64 o hb)).trans (r64_set o i.val hb ho))
  unfold p0
  iintro H Hk
  iapply (wp_load_rect 𝒱₀ (c : Thread nD τ) none Set.univ (m := a0) (r := r64 o hb) (S := rows 64 i.val) hsub) $$ H; iintro H
  iapply (wp_store 𝒱₀ (c : Thread nD τ) none Set.univ (m := a0) (r := r64 o hb) (Mk := Finset.univ) hsub) $$ H; iintro H
  iapply Hk
  iapply (write_rows cc0_scratch0 c fullShare (r64 o hb) (rows 64 i.val) (r64_set o i.val hb ho) f (sendX m c) w
    (fun x => by rw [hw]; exact (glue64_emb (pieceX m c) o i hb ho x).symm))
  iexact H

/-- A half stored in the `yk_send` buffer. -/
theorem step_put_y (i : Fin 2) (o : ℕ) (ho : o = 128 * i.val) (hb) {hl hx hm} {w : S128x1024.Idx → Elt F .i8} (hw : w = pieceY m c i) (f)
    {k : PUnit → Prog (TpuEff nD τ sig (Elt F) Λ₀ .tc) α} :
    p3 c (rows 128 i.val) fullShare f
      ⊢ iprop((p3 c (rows 128 i.val) fullShare (sendY m c) -∗ wp frame (wpE (defs₀ (F := F)) 𝒱₀ (c : Thread nD τ) none) Set.univ (k ⟨⟩) Q)
          -∗ wp frame (wpE (defs₀ (F := F)) 𝒱₀ (c : Thread nD τ) none) Set.univ
            (.op (.load a3 (r128 o hb).toLoadRect hl) fun _ => .op (.store a3 (r128 o hb) w Finset.univ hx hm) k) Q) := by
  have hsub : (a3.access (r128 o hb)).set ⊆ rows 128 i.val :=
    subset_of_eq ((View.set_slice_whole cc0_scratch3 (r128 o hb)).trans (r128_set o i.val hb ho))
  unfold p3
  iintro H Hk
  iapply (wp_load_rect 𝒱₀ (c : Thread nD τ) none Set.univ (m := a3) (r := r128 o hb) (S := rows 128 i.val) hsub) $$ H; iintro H
  iapply (wp_store 𝒱₀ (c : Thread nD τ) none Set.univ (m := a3) (r := r128 o hb) (Mk := Finset.univ) hsub) $$ H; iintro H
  iapply Hk
  iapply (write_rows cc0_scratch3 c fullShare (r128 o hb) (rows 128 i.val) (r128_set o i.val hb ho) f (sendY m c) w
    (fun x => by rw [hw]; exact (glue128_emb (pieceY m c) o i hb ho x).symm))
  iexact H

/-! ## The hops by family -/

/-- Hop `i` along `x`: a quarter of `x_send` into the `x` partner's `x_recv`. -/
theorem step_hop_x (i : Fin 4) (l : List (Fin 10)) (n : Dev nD) (hn : n = xp c) (o : ℕ) (ho : o = 64 * i.val) (hb)
    {hf hf'} {hsc : (a1.slice (r64 o hb) hf').view.ref.isScScratch = false} {sS sR : DmaSem sig} (hsS : sS = dsem (sd (jx i))) (hsR : sR = dsem (rv (jx i))) {hsrc hdst}
    {hsem : DmaTarget.Typed .vmem (.dma sR) (.remote (Dev.tc n : Thread nD τ) (a1.slice (r64 o hb) hf') (.dma sS) hsc)}
    {k : PUnit → Prog (TpuEff nD τ sig (Elt F) Λ₀ .tc) α} :
    iprop(recs m K ∗ p0 c (rows 64 i.val) fullShare (sendX m c) ∗ (∃ f, p1 (xp c) (rows 64 i.val) fullShare f) ∗ ow c (due c (jx i :: l)) ∗ tk c (jx i))
      ⊢ iprop(((rx c (sd (jx i)) ∗ ow c (due c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (a0.slice (r64 o hb) hf) (.remote (Dev.tc n : Thread nD τ) (a1.slice (r64 o hb) hf') (.dma sS) hsc) (.dma sR) hsrc hdst hsem) k) Q) := by
  have hpeer : peer (jx i) c = xp c := peer_jx i c
  have e0 : (a0.slice (r64 o hb) hf).view.set = rows 64 i.val := (View.set_slice_whole cc0_scratch0 (r64 o hb)).trans (r64_set o i.val hb ho)
  have e1 : (a1.slice (r64 o hb) hf').view.set = rows 64 i.val := (View.set_slice_whole cc0_scratch1 (r64 o hb)).trans (r64_set o i.val hb ho)
  have hs : dpay m c (sd (jx i)).val = p0 c (rows 64 i.val) fullShare (sendX m c) := by fin_cases i <;> rfl
  have hr : dpay m (xp c) (rv (jx i)).val = p1 (xp c) (rows 64 i.val) fullShare (sendX m c) := by
    have h : landX m (xp c) = sendX m c := by unfold landX; rw [xp_xp]
    rw [← h]; fin_cases i <;> rfl
  refine step_hop m K c (jx i) l n (hn.trans hpeer.symm) hsS hsR ((credit64 _).trans ?_) (q := fullShare) (fs := sendX m c) ?_ ?_ ?_ ?_
  · fin_cases i <;> rfl
  · rw [e0]; exact BI.Entails.refl _
  · rw [e1, hpeer]; exact BI.Entails.refl _
  · rw [e0, hs]; exact BI.Entails.refl _
  · intro fd
    rw [e1, hpeer, hr]
    exact write_rows cc0_scratch1 (xp c) fullShare (r64 o hb) _ (r64_set o i.val hb ho) fd (sendX m c) _ (fun x => rfl)

/-- Hop `i` along `z`: a quarter of `x_recv`, at half its share, into the `z` partner's `z_recv`. -/
theorem step_hop_z (i : Fin 4) (l : List (Fin 10)) (n : Dev nD) (hn : n = zp c) (o : ℕ) (ho : o = 64 * i.val) (hb)
    {hf hf'} {hsc : (a2.slice (r64 o hb) hf').view.ref.isScScratch = false} {sS sR : DmaSem sig} (hsS : sS = dsem (sd (jz i))) (hsR : sR = dsem (rv (jz i))) {hsrc hdst}
    {hsem : DmaTarget.Typed .vmem (.dma sR) (.remote (Dev.tc n : Thread nD τ) (a2.slice (r64 o hb) hf') (.dma sS) hsc)}
    {k : PUnit → Prog (TpuEff nD τ sig (Elt F) Λ₀ .tc) α} :
    iprop(recs m K ∗ p1 c (rows 64 i.val) fullShare.left (landX m c) ∗ (∃ f, p2 (zp c) (rows 64 i.val) fullShare f) ∗ ow c (due c (jz i :: l)) ∗ tk c (jz i))
      ⊢ iprop(((rx c (sd (jz i)) ∗ ow c (due c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (a1.slice (r64 o hb) hf) (.remote (Dev.tc n : Thread nD τ) (a2.slice (r64 o hb) hf') (.dma sS) hsc) (.dma sR) hsrc hdst hsem) k) Q) := by
  have hpeer : peer (jz i) c = zp c := peer_jz i c
  have e0 : (a1.slice (r64 o hb) hf).view.set = rows 64 i.val := (View.set_slice_whole cc0_scratch1 (r64 o hb)).trans (r64_set o i.val hb ho)
  have e1 : (a2.slice (r64 o hb) hf').view.set = rows 64 i.val := (View.set_slice_whole cc0_scratch2 (r64 o hb)).trans (r64_set o i.val hb ho)
  have hs : dpay m c (sd (jz i)).val = p1 c (rows 64 i.val) fullShare.left (landX m c) := by fin_cases i <;> rfl
  have hr : dpay m (zp c) (rv (jz i)).val = p2 (zp c) (rows 64 i.val) fullShare (landX m c) := by
    have h : landZ m (zp c) = landX m c := by unfold landZ; rw [zp_zp]
    rw [← h]; fin_cases i <;> rfl
  refine step_hop m K c (jz i) l n (hn.trans hpeer.symm) hsS hsR ((credit64 _).trans ?_) (q := fullShare.left) (fs := landX m c) ?_ ?_ ?_ ?_
  · fin_cases i <;> rfl
  · rw [e0]; exact BI.Entails.refl _
  · rw [e1, hpeer]; exact BI.Entails.refl _
  · rw [e0, hs]; exact BI.Entails.refl _
  · intro fd
    rw [e1, hpeer, hr]
    exact write_rows cc0_scratch2 (zp c) fullShare (r64 o hb) _ (r64_set o i.val hb ho) fd (landX m c) _ (fun x => rfl)

/-- Hop `i` along `y`: a half of `yk_send` into the `y` partner's `yk_recv`. -/
theorem step_hop_y (i : Fin 2) (l : List (Fin 10)) (n : Dev nD) (hn : n = yp c) (o : ℕ) (ho : o = 128 * i.val) (hb)
    {hf hf'} {hsc : (a4.slice (r128 o hb) hf').view.ref.isScScratch = false} {sS sR : DmaSem sig} (hsS : sS = dsem (sd (jy i))) (hsR : sR = dsem (rv (jy i))) {hsrc hdst}
    {hsem : DmaTarget.Typed .vmem (.dma sR) (.remote (Dev.tc n : Thread nD τ) (a4.slice (r128 o hb) hf') (.dma sS) hsc)}
    {k : PUnit → Prog (TpuEff nD τ sig (Elt F) Λ₀ .tc) α} :
    iprop(recs m K ∗ p3 c (rows 128 i.val) fullShare (sendY m c) ∗ (∃ f, p4 (yp c) (rows 128 i.val) fullShare f) ∗ ow c (due c (jy i :: l)) ∗ tk c (jy i))
      ⊢ iprop(((rx c (sd (jy i)) ∗ ow c (due c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (a3.slice (r128 o hb) hf) (.remote (Dev.tc n : Thread nD τ) (a4.slice (r128 o hb) hf') (.dma sS) hsc) (.dma sR) hsrc hdst hsem) k) Q) := by
  have hpeer : peer (jy i) c = yp c := peer_jy i c
  have e0 : (a3.slice (r128 o hb) hf).view.set = rows 128 i.val := (View.set_slice_whole cc0_scratch3 (r128 o hb)).trans (r128_set o i.val hb ho)
  have e1 : (a4.slice (r128 o hb) hf').view.set = rows 128 i.val := (View.set_slice_whole cc0_scratch4 (r128 o hb)).trans (r128_set o i.val hb ho)
  have hs : dpay m c (sd (jy i)).val = p3 c (rows 128 i.val) fullShare (sendY m c) := by fin_cases i <;> rfl
  have hr : dpay m (yp c) (rv (jy i)).val = p4 (yp c) (rows 128 i.val) fullShare (sendY m c) := by
    have h : landY m (yp c) = sendY m c := by unfold landY; rw [yp_yp]
    rw [← h]; fin_cases i <;> rfl
  refine step_hop m K c (jy i) l n (hn.trans hpeer.symm) hsS hsR ((credit128 _).trans ?_) (q := fullShare) (fs := sendY m c) ?_ ?_ ?_ ?_
  · fin_cases i <;> rfl
  · rw [e0]; exact BI.Entails.refl _
  · rw [e1, hpeer]; exact BI.Entails.refl _
  · rw [e0, hs]; exact BI.Entails.refl _
  · intro fd
    rw [e1, hpeer, hr]
    exact write_rows cc0_scratch4 (yp c) fullShare (r128 o hb) _ (r128_set o i.val hb ho) fd (sendY m c) _ (fun x => rfl)

end Steps

end Cert.KernelIdealProof

end
-- ==== Proof.DataKernelIdeal.lean ====
/-
# 01_k — what the pipeline hands the body and takes back, and the body run
-/
module

public import proofs.«01_k».proof.Proof.HopsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

/-- Two blocks of 1024 columns side by side. -/
def glueCol {T : Type} (f g : S256x1024.Idx → T) : S256x2048.Idx → T := fun j =>
  if h : (j 1).val < 1024 then f (fun a => match a with
      | ⟨0, _⟩ => ⟨(j 0).val, (j 0).isLt⟩
      | ⟨1, _⟩ => ⟨(j 1).val, h⟩)
  else g (fun a => match a with
      | ⟨0, _⟩ => ⟨(j 0).val, (j 0).isLt⟩
      | ⟨1, _⟩ => ⟨(j 1).val - 1024, by have : (j 1).val < 2048 := (j 1).isLt; show (j 1).val - 1024 < 1024; omega⟩)

/-- The device's own exact product. -/
def own (c : Dev nD) : FVec F S256x1024 .f32 := k0_pay19 (k0_pay13 (xkeep m c) (dyh m c)) (k0_pay15 (xkeep m c) (dyh m c))
/-- What the body leaves in the result's staging buffer. -/
def outAt (c : Dev nD) : S256x2048.Idx → Elt F .f32 :=
  glueCol (k0_pay23 (Scalar.cmpi .eq (wr c) 0#32) (Scalar.cmpi .eq (wy c) 0#32) (own m c) (landX m c) (landZ m c) (landY m c))
    (k0_pay24 (Scalar.cmpi .eq (wr c) 0#32) (Scalar.cmpi .eq (wy c) 0#32) (own m c) (landX m c) (landZ m c) (landY m c))

abbrev rcol (o : ℕ) (h : ∀ a, (![0, o] : Fin 2 → ℕ) a + S256x1024.size a ≤ S256x2048.size a) : Rect S256x2048 :=
  Rect.unit (s := S256x2048) ![0, o] S256x1024.size h

/-- The two half stores leave the two blocks side by side. -/
theorem write_cols (f : (cc0_stg2_0 : Ref sig .tc).ty.Contents (Elt F)) (u v : S256x1024.Idx → Elt F .f32) (h0) (h1) :
    ((Memref.whole cc0_stg2_0 : Memref sig .tc .vmem S256x2048 .f32).access (rcol 1024 h1)).write (Elt F)
      (((Memref.whole cc0_stg2_0 : Memref sig .tc .vmem S256x2048 .f32).access (rcol 0 h0)).write (Elt F) f u Finset.univ) v Finset.univ = glueCol u v := by
  funext j
  have hj0 : (j 0).val < 256 := (j 0).isLt
  have hj1 : (j 1).val < 2048 := (j 1).isLt
  have eu : ∀ x, u x = glueCol u v ((rcol 0 h0).emb x) := by
    intro x
    have e0 : (((rcol 0 h0).emb x) 0).val = (x 0).val := by rw [Rect.emb_apply]; show 0 + 1 * (x 0).val = _; omega
    have e1 : (((rcol 0 h0).emb x) 1).val = (x 1).val := by rw [Rect.emb_apply]; show 0 + 1 * (x 1).val = _; omega
    have hx : (x 1).val < 1024 := (x 1).isLt
    unfold glueCol; rw [dif_pos (by rw [e1]; exact hx)]
    congr 1; funext a; fin_cases a
    · exact Fin.ext e0.symm
    · exact Fin.ext e1.symm
  have ev : ∀ x, v x = glueCol u v ((rcol 1024 h1).emb x) := by
    intro x
    have e0 : (((rcol 1024 h1).emb x) 0).val = (x 0).val := by rw [Rect.emb_apply]; show 0 + 1 * (x 0).val = _; omega
    have e1 : (((rcol 1024 h1).emb x) 1).val = 1024 + (x 1).val := by rw [Rect.emb_apply]; show 1024 + 1 * (x 1).val = _; omega
    unfold glueCol; rw [dif_neg (by rw [e1]; omega)]
    congr 1; funext a; fin_cases a
    · exact Fin.ext e0.symm
    · exact Fin.ext (by show (x 1).val = (((rcol 1024 h1).emb x) 1).val - 1024; rw [e1]; omega)
  by_cases h : 1024 ≤ (j 1).val
  · refine write_slice_whole cc0_stg2_0 (rcol 1024 h1) _ (glueCol u v) v ev j ?_
    rw [Rect.mem_set_unit]; intro a; fin_cases a
    · show 0 ≤ (j 0).val ∧ (j 0).val < 0 + 256; omega
    · show 1024 ≤ (j 1).val ∧ (j 1).val < 1024 + 1024; omega
  · have hn : j ∉ ((Memref.whole cc0_stg2_0 : Memref sig .tc .vmem S256x2048 .f32).access (rcol 1024 h1)).setOn Finset.univ := by
      intro hm
      have hm' : j ∈ (rcol 1024 h1).set := by
        rw [← View.set_slice_whole cc0_stg2_0 (rcol 1024 h1)]; exact hm
      rw [Rect.mem_set_unit] at hm'
      exact h (hm' 1).1
    refine (View.write_of_not_mem (v := (Memref.whole cc0_stg2_0 : Memref sig .tc .vmem S256x2048 .f32).access (rcol 1024 h1)) _ v Finset.univ hn).trans ?_
    refine write_slice_whole cc0_stg2_0 (rcol 0 h0) f (glueCol u v) u eu j ?_
    rw [Rect.mem_set_unit]; intro a; fin_cases a
    · show 0 ≤ (j 0).val ∧ (j 0).val < 0 + 256; omega
    · show 0 ≤ (j 1).val ∧ (j 1).val < 0 + 1024; omega

/-! ## What the region starts from and ends with -/

/-- What a device starts with, beside its buffers: its barrier cell's position and credit, the barrier tokens it pays, what
    its hops are paid with, and what its arrival waits take. -/
def lin (c : Dev nD) : sProp 𝕄 :=
  iprop((atPos ER (barCell c) 0 ∅ 0 ∗ cred (tallyAt (barCell c) () 3))
    ∗ (bigSep Finset.univ fun d : Fin 3 => dutyTok ER (barCell (bpeer d c)) 0 d)
    ∗ (bigSep Finset.univ fun j : Fin 10 => tk c j)
    ∗ (bigSep Finset.univ fun j : Fin 10 => rx c (rv j)))

/-- The five scratch buffers, whatever they hold. -/
def bufs (c : Dev nD) : sProp 𝕄 :=
  iprop((∃ f, p0 c Finset.univ fullShare f) ∗ (∃ f, p1 c Finset.univ fullShare f) ∗ (∃ f, p2 c Finset.univ fullShare f)
    ∗ (∃ f, p3 c Finset.univ fullShare f) ∗ (∃ f, p4 c Finset.univ fullShare f))

def Φ₀ (c : Dev nD) : sProp 𝕄 := iprop((∃ K, recs m K ∗ levAts L lv ∗ lin c) ∗ bufs c)
/-- At the end: the scratch buffers, the own cells at zero and the barrier cell at zero. -/
def Φ₁ (c : Dev nD) : sProp 𝕄 := iprop(bufs c ∗ (bigSep Finset.univ fun k : Fin 20 => zv c k) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => dystg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## Buffers cut, whatever they hold -/

theorem p0_open (c : Dev nD) : iprop(∃ f, p0 (F := F) c Finset.univ fullShare f)
    ⊢ iprop((∃ f, p0 (F := F) c (rows 64 (0 : Fin 4).val) fullShare f) ∗ (∃ f, p0 (F := F) c (rows 64 (1 : Fin 4).val) fullShare f) ∗ (∃ f, p0 (F := F) c (rows 64 (2 : Fin 4).val) fullShare f) ∗ (∃ f, p0 (F := F) c (rows 64 (3 : Fin 4).val) fullShare f)) := by
  iintro ⟨%f, H⟩
  ihave H := (Entails.of_eq (p0_cut c fullShare f)) $$ H
  icases H with ⟨H0, H1, H2, H3⟩
  isplitl [H0]; · iexists f; iexact H0
  isplitl [H1]; · iexists f; iexact H1
  isplitl [H2]; · iexists f; iexact H2
  iexists f; iexact H3
theorem p1_open (c : Dev nD) : iprop(∃ f, p1 (F := F) c Finset.univ fullShare f)
    ⊢ iprop((∃ f, p1 (F := F) c (rows 64 (0 : Fin 4).val) fullShare f) ∗ (∃ f, p1 (F := F) c (rows 64 (1 : Fin 4).val) fullShare f) ∗ (∃ f, p1 (F := F) c (rows 64 (2 : Fin 4).val) fullShare f) ∗ (∃ f, p1 (F := F) c (rows 64 (3 : Fin 4).val) fullShare f)) := by
  iintro ⟨%f, H⟩
  ihave H := (Entails.of_eq (p1_cut c fullShare f)) $$ H
  icases H with ⟨H0, H1, H2, H3⟩
  isplitl [H0]; · iexists f; iexact H0
  isplitl [H1]; · iexists f; iexact H1
  isplitl [H2]; · iexists f; iexact H2
  iexists f; iexact H3
theorem p2_open (c : Dev nD) : iprop(∃ f, p2 (F := F) c Finset.univ fullShare f)
    ⊢ iprop((∃ f, p2 (F := F) c (rows 64 (0 : Fin 4).val) fullShare f) ∗ (∃ f, p2 (F := F) c (rows 64 (1 : Fin 4).val) fullShare f) ∗ (∃ f, p2 (F := F) c (rows 64 (2 : Fin 4).val) fullShare f) ∗ (∃ f, p2 (F := F) c (rows 64 (3 : Fin 4).val) fullShare f)) := by
  iintro ⟨%f, H⟩
  ihave H := (Entails.of_eq (p2_cut c fullShare f)) $$ H
  icases H with ⟨H0, H1, H2, H3⟩
  isplitl [H0]; · iexists f; iexact H0
  isplitl [H1]; · iexists f; iexact H1
  isplitl [H2]; · iexists f; iexact H2
  iexists f; iexact H3
theorem p3_open (c : Dev nD) : iprop(∃ f, p3 (F := F) c Finset.univ fullShare f)
    ⊢ iprop((∃ f, p3 (F := F) c (rows 128 (0 : Fin 2).val) fullShare f) ∗ (∃ f, p3 (F := F) c (rows 128 (1 : Fin 2).val) fullShare f)) := by
  iintro ⟨%f, H⟩
  ihave H := (Entails.of_eq (p3_cut c fullShare f)) $$ H
  icases H with ⟨H0, H1⟩
  isplitl [H0]; · iexists f; iexact H0
  iexists f; iexact H1
theorem p4_open (c : Dev nD) : iprop(∃ f, p4 (F := F) c Finset.univ fullShare f)
    ⊢ iprop((∃ f, p4 (F := F) c (rows 128 (0 : Fin 2).val) fullShare f) ∗ (∃ f, p4 (F := F) c (rows 128 (1 : Fin 2).val) fullShare f)) := by
  iintro ⟨%f, H⟩
  ihave H := (Entails.of_eq (p4_cut c fullShare f)) $$ H
  icases H with ⟨H0, H1⟩
  isplitl [H0]; · iexists f; iexact H0
  iexists f; iexact H1

/-! ## Payloads by family -/

theorem dpay_xS (c : Dev nD) (i : Fin 4) : dpay m c (sd (jx i)).val = p0 c (rows 64 i.val) fullShare (sendX m c) := by fin_cases i <;> rfl
theorem dpay_xR (c : Dev nD) (i : Fin 4) : dpay m c (rv (jx i)).val = p1 c (rows 64 i.val) fullShare (landX m c) := by fin_cases i <;> rfl
theorem dpay_zS (c : Dev nD) (i : Fin 4) : dpay m c (sd (jz i)).val = p1 c (rows 64 i.val) fullShare.left (landX m c) := by fin_cases i <;> rfl
theorem dpay_zR (c : Dev nD) (i : Fin 4) : dpay m c (rv (jz i)).val = p2 c (rows 64 i.val) fullShare (landZ m c) := by fin_cases i <;> rfl
theorem dpay_yS (c : Dev nD) (i : Fin 2) : dpay m c (sd (jy i)).val = p3 c (rows 128 i.val) fullShare (sendY m c) := by fin_cases i <;> rfl
theorem dpay_yR (c : Dev nD) (i : Fin 2) : dpay m c (rv (jy i)).val = p4 c (rows 128 i.val) fullShare (landY m c) := by fin_cases i <;> rfl

omit [FloatOps F] in
theorem barPay_x (c : Dev nD) : barPay (F := F) (bpeer 0 c) 0 = iprop(∃ f, p1 c Finset.univ fullShare f) := by
  unfold barPay bpeer; simp only [xp_xp]
omit [FloatOps F] in
theorem barPay_y (c : Dev nD) : barPay (F := F) (bpeer 1 c) 1 = iprop(∃ f, p4 c Finset.univ fullShare f) := by
  unfold barPay bpeer; simp only [yp_yp]
omit [FloatOps F] in
theorem barPay_z (c : Dev nD) : barPay (F := F) (bpeer 2 c) 2 = iprop(∃ f, p2 c Finset.univ fullShare f) := by
  unfold barPay bpeer; simp only [zp_zp]

end Cert.KernelIdealProof

end
-- ==== Proof.BodyKernelIdeal.lean ====
/-
# 01_k — the body, run from what the pipeline hands it to what it takes back
-/
module

public import proofs.«01_k».proof.Proof.DataKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem hz : (![0, 0] : Fin 2 → Nat) = fun _ => 0 := funext fun a => by fin_cases a <;> rfl

theorem read_x (f : (cc0_stg0_0 : Ref sig .tc).ty.Contents (Elt F)) :
    (Memref.whole cc0_stg0_0 : Memref sig .tc .vmem S512x512 .bf16).view.readAt (Elt F) (Rect.unit (s := S512x512) ![0, 0] S512x512.size inb_S512x512_S512x512_0_0).toLoadRect f = f :=
  Memref.readAt_unit_zero (Elt F) cc0_stg0_0 hz _ f
theorem read_dy (f : (cc0_stg1_0 : Ref sig .tc).ty.Contents (Elt F)) :
    (Memref.whole cc0_stg1_0 : Memref sig .tc .vmem S512x2048 .bf16).view.readAt (Elt F) (Rect.unit (s := S512x2048) ![0, 0] S512x2048.size inb_S512x2048_S512x2048_0_0).toLoadRect f = f :=
  Memref.readAt_unit_zero (Elt F) cc0_stg1_0 hz _ f

/-- A receive buffer read whole. -/
abbrev rall : Rect S256x1024 := Rect.unit (s := S256x1024) ![0, 0] S256x1024.size inb_S256x1024_S256x1024_0_0
theorem read_a1 (f : S256x1024.Idx → Elt F .i8) : (a1 : Memref sig .tc .vmem S256x1024 .i8).view.readAt (Elt F) rall.toLoadRect f = f :=
  Memref.readAt_unit_zero (Elt F) cc0_scratch1 hz _ f
theorem read_a2 (f : S256x1024.Idx → Elt F .i8) : (a2 : Memref sig .tc .vmem S256x1024 .i8).view.readAt (Elt F) rall.toLoadRect f = f :=
  Memref.readAt_unit_zero (Elt F) cc0_scratch2 hz _ f
theorem read_a4 (f : S256x1024.Idx → Elt F .i8) : (a4 : Memref sig .tc .vmem S256x1024 .i8).view.readAt (Elt F) rall.toLoadRect f = f :=
  Memref.readAt_unit_zero (Elt F) cc0_scratch4 hz _ f

/-- The ten hops of a big conjunction in program order. -/
theorem hops_list (Φ : Fin 10 → sProp 𝕄) : bigSep Finset.univ Φ
    = iprop(Φ (jx 0) ∗ Φ (jx 1) ∗ Φ (jx 2) ∗ Φ (jx 3) ∗ Φ (jy 0) ∗ Φ (jz 0) ∗ Φ (jz 1) ∗ Φ (jy 1) ∗ Φ (jz 2) ∗ Φ (jz 3)) := by
  rw [bigSep_univ_eq_bigSepL order (by decide) (by decide)]; rfl
theorem three_list (Φ : Fin 3 → sProp 𝕄) : bigSep Finset.univ Φ = iprop(Φ 0 ∗ Φ 1 ∗ Φ 2) := by
  rw [bigSep_univ_eq_bigSepL [0, 1, 2] (by decide) (by decide)]; rfl
/-- The twenty transfer cells of a big conjunction, by hop. -/
theorem cells_list (Φ : Fin 20 → sProp 𝕄) : bigSep Finset.univ Φ
    = iprop(Φ (rv (jx 0)) ∗ Φ (rv (jx 1)) ∗ Φ (rv (jx 2)) ∗ Φ (rv (jx 3)) ∗ Φ (rv (jy 0)) ∗ Φ (rv (jy 1)) ∗ Φ (rv (jz 0)) ∗ Φ (rv (jz 1)) ∗ Φ (rv (jz 2)) ∗ Φ (rv (jz 3))
      ∗ Φ (sd (jx 0)) ∗ Φ (sd (jx 1)) ∗ Φ (sd (jx 2)) ∗ Φ (sd (jx 3)) ∗ Φ (sd (jz 0)) ∗ Φ (sd (jz 1)) ∗ Φ (sd (jz 2)) ∗ Φ (sd (jz 3)) ∗ Φ (sd (jy 0)) ∗ Φ (sd (jy 1))) := by
  rw [bigSep_univ_eq_bigSepL [rv (jx 0), rv (jx 1), rv (jx 2), rv (jx 3), rv (jy 0), rv (jy 1), rv (jz 0), rv (jz 1), rv (jz 2), rv (jz 3),
    sd (jx 0), sd (jx 1), sd (jx 2), sd (jx 3), sd (jz 0), sd (jz 1), sd (jz 2), sd (jz 3), sd (jy 0), sd (jy 1)] (by decide) (by decide)]; rfl

section Body

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (xstg m c) ∗ stg c cc0_stg1_0 (dystg m c) ∗ stg c cc0_stg2_0 (outAt m c))

theorem before_x (c : Dev nD) (d) : (dats m 0 c).before (0 : Fin 3) t0_0 d = xstg m c :=
  by unfold Dat.before; rw [if_pos (fetch0_0 t0_0)]; rfl
theorem before_dy (c : Dev nD) (d) : (dats m 0 c).before (1 : Fin 3) t0_0 d = dystg m c :=
  by unfold Dat.before; rw [if_pos (fetch0_1 t0_0)]; rfl

set_option maxHeartbeats 4000000 in
/-- The body, run one effect at a time in program order. -/
theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ (bodyAt0 (F := F) t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [semSignalWord, semWaitWord, Prog.lift, Prog.bind_op, Prog.bind_ret, Prog.pure_eq_ret, wp_deviceId]
  unfold bodyPre Φ₀ lin bufs
  rw [hops_list, hops_list, three_list]
  iintro ⟨⟨⟨⟨%K, #HR, #Hlev, ⟨HatB, HcB⟩, ⟨B0, B1, B2⟩, ⟨Tx0, Tx1, Tx2, Tx3, Ty0, Tz0, Tz1, Ty1, Tz2, Tz3⟩, ⟨Rx0, Rx1, Rx2, Rx3, Ry0, Rz0, Rz1, Ry1, Rz2, Rz3⟩⟩,
      Hb0, Hb1, Hb2, Hb3, Hb4⟩, Ho, ⟨%d0, %g0, %hg0, Hx⟩, ⟨%d1, %g1, %hg1, Hdy⟩, ⟨%d2, %g2, %hg2, Hout⟩⟩, Hk⟩
  have hx : g0 = xstg m c := hg0.trans (before_x m c d0)
  have hdy : g1 = dystg m c := hg1.trans (before_dy m c d1)
  subst hx; subst hdy
  unfold Dat.owesAt Pipeline.owesWithin
  icases Ho with ⟨%W, %hW, HO⟩
  ihave HO := (show owes (c : Thread nD τ) ((dats m 0 c).owed t0_0.castSucc) W ⊢ ow c (O₁ c + tallyAt (barCell (bpeer 0 c)) () 1) from by
    unfold ow; iintro H; iexists W; iexact H) $$ HO
  iapply (step_signal m K c 0 _ (dev1_eq c) (by decide) (O₁ c)) $$ [HO B0 Hb1]
  · isplitr; · iexact HR
    isplitl [HO]; · iexact HO
    isplitl [B0]; · iexact B0
    rw [barPay_x]; iexact Hb1
  iintro HO
  iapply (step_signal m K c 1 _ (dev2_eq c) (by decide) (O₂ c)) $$ [HO B1 Hb4]
  · isplitr; · iexact HR
    isplitl [HO]; · iexact HO
    isplitl [B1]; · iexact B1
    rw [barPay_y]; iexact Hb4
  iintro HO
  iapply (step_signal m K c 2 _ (dev3_eq c) (by decide) (O₃ c)) $$ [HO B2 Hb2]
  · isplitr; · iexact HR
    isplitl [HO]; · iexact HO
    isplitl [B2]; · iexact B2
    rw [barPay_z]; iexact Hb2
  iintro HO
  iapply (step_barrier m K c (by decide) order) $$ [HO HatB HcB]
  · isplitr; · iexact HR
    isplitr; · iexact Hlev
    isplitl [HO]; · iexact HO
    isplitl [HatB]; · iexact HatB
    iexact HcB
  iintro ⟨HO, ZB, Hp1, Hp4, Hp2⟩
  ihave Hp1 := (show barPay c 0 ⊢ _ from p1_open (xp c)) $$ Hp1
  icases Hp1 with ⟨Dx0, Dx1, Dx2, Dx3⟩
  ihave Hp2 := (show barPay c 2 ⊢ _ from p2_open (zp c)) $$ Hp2
  icases Hp2 with ⟨Dz0, Dz1, Dz2, Dz3⟩
  ihave Hp4 := (show barPay c 1 ⊢ _ from p4_open (yp c)) $$ Hp4
  icases Hp4 with ⟨Dy0, Dy1⟩
  ihave Hb0 := (p0_open c) $$ Hb0
  icases Hb0 with ⟨⟨%e0, X0⟩, ⟨%e1, X1⟩, ⟨%e2, X2⟩, ⟨%e3, X3⟩⟩
  ihave Hb3 := (p3_open c) $$ Hb3
  icases Hb3 with ⟨⟨%e4, Y0⟩, ⟨%e5, Y1⟩⟩
  -- the two operands are loaded
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hdy; iintro Hdy
  rw [read_dy]
  iapply (step_put_x m c 0 0 rfl _ rfl _) $$ X0; iintro X0
  -- hop 0 along x
  iapply (step_hop_x m K c 0 [jx 1, jx 2, jx 3, jy 0, jz 0, jz 1, jy 1, jz 2, jz 3] _ (dev4_eq c) 0 rfl _ rfl rfl) $$ [X0 Dx0 HO Tx0]
  · isplitr; · iexact HR
    isplitl [X0]; · iexact X0
    isplitl [Dx0]; · iexact Dx0
    isplitl [HO]; · iexact HO
    iexact Tx0
  iintro ⟨Sx0, HO⟩
  iapply (step_put_x m c 1 64 rfl _ rfl _) $$ X1; iintro X1
  -- hop 1 along x
  iapply (step_hop_x m K c 1 [jx 2, jx 3, jy 0, jz 0, jz 1, jy 1, jz 2, jz 3] _ (dev5_eq c) 64 rfl _ rfl rfl) $$ [X1 Dx1 HO Tx1]
  · isplitr; · iexact HR
    isplitl [X1]; · iexact X1
    isplitl [Dx1]; · iexact Dx1
    isplitl [HO]; · iexact HO
    iexact Tx1
  iintro ⟨Sx1, HO⟩
  iapply (step_put_x m c 2 128 rfl _ rfl _) $$ X2; iintro X2
  -- hop 2 along x
  iapply (step_hop_x m K c 2 [jx 3, jy 0, jz 0, jz 1, jy 1, jz 2, jz 3] _ (dev6_eq c) 128 rfl _ rfl rfl) $$ [X2 Dx2 HO Tx2]
  · isplitr; · iexact HR
    isplitl [X2]; · iexact X2
    isplitl [Dx2]; · iexact Dx2
    isplitl [HO]; · iexact HO
    iexact Tx2
  iintro ⟨Sx2, HO⟩
  iapply (step_put_x m c 3 192 rfl _ rfl _) $$ X3; iintro X3
  -- hop 3 along x
  iapply (step_hop_x m K c 3 [jy 0, jz 0, jz 1, jy 1, jz 2, jz 3] _ (dev7_eq c) 192 rfl _ rfl rfl) $$ [X3 Dx3 HO Tx3]
  · isplitr; · iexact HR
    isplitl [X3]; · iexact X3
    isplitl [Dx3]; · iexact Dx3
    isplitl [HO]; · iexact HO
    iexact Tx3
  iintro ⟨Sx3, HO⟩
  iapply (step_put_y m c 0 0 rfl _ rfl _) $$ Y0; iintro Y0
  -- hop 0 along y
  iapply (step_hop_y m K c 0 [jz 0, jz 1, jy 1, jz 2, jz 3] _ (dev8_eq c) 0 rfl _ rfl rfl) $$ [Y0 Dy0 HO Ty0]
  · isplitr; · iexact HR
    isplitl [Y0]; · iexact Y0
    isplitl [Dy0]; · iexact Dy0
    isplitl [HO]; · iexact HO
    iexact Ty0
  iintro ⟨Sy0, HO⟩
  -- arrival 0 along x
  iapply (step_wait m K c (rv (jx 0)) [jz 0, jz 1, jy 1, jz 2, jz 3] (by decide) rfl (credit64 _)) $$ [HO Rx0]
  · isplitr; · iexact HR
    isplitr; · iexact Hlev
    isplitl [HO]; · iexact HO
    iexact Rx0
  iintro ⟨HO, ZRx0, P⟩
  ihave PRx0 := (Entails.of_eq (dpay_xR m c 0)) $$ P
  ihave P := (p1_halve c (rows 64 (0 : Fin 4).val) (landX m c)).1 $$ PRx0
  icases P with ⟨L0, M0⟩
  -- hop 0 along z
  iapply (step_hop_z m K c 0 [jz 1, jy 1, jz 2, jz 3] _ (dev9_eq c) 0 rfl _ rfl rfl) $$ [L0 Dz0 HO Tz0]
  · isplitr; · iexact HR
    isplitl [L0]; · iexact L0
    isplitl [Dz0]; · iexact Dz0
    isplitl [HO]; · iexact HO
    iexact Tz0
  iintro ⟨Sz0, HO⟩
  -- arrival 1 along x
  iapply (step_wait m K c (rv (jx 1)) [jz 1, jy 1, jz 2, jz 3] (by decide) rfl (credit64 _)) $$ [HO Rx1]
  · isplitr; · iexact HR
    isplitr; · iexact Hlev
    isplitl [HO]; · iexact HO
    iexact Rx1
  iintro ⟨HO, ZRx1, P⟩
  ihave PRx1 := (Entails.of_eq (dpay_xR m c 1)) $$ P
  ihave P := (p1_halve c (rows 64 (1 : Fin 4).val) (landX m c)).1 $$ PRx1
  icases P with ⟨L1, M1⟩
  -- hop 1 along z
  iapply (step_hop_z m K c 1 [jy 1, jz 2, jz 3] _ (dev10_eq c) 64 rfl _ rfl rfl) $$ [L1 Dz1 HO Tz1]
  · isplitr; · iexact HR
    isplitl [L1]; · iexact L1
    isplitl [Dz1]; · iexact Dz1
    isplitl [HO]; · iexact HO
    iexact Tz1
  iintro ⟨Sz1, HO⟩
  iapply (step_put_y m c 1 128 rfl _ rfl _) $$ Y1; iintro Y1
  -- hop 1 along y
  iapply (step_hop_y m K c 1 [jz 2, jz 3] _ (dev11_eq c) 128 rfl _ rfl rfl) $$ [Y1 Dy1 HO Ty1]
  · isplitr; · iexact HR
    isplitl [Y1]; · iexact Y1
    isplitl [Dy1]; · iexact Dy1
    isplitl [HO]; · iexact HO
    iexact Ty1
  iintro ⟨Sy1, HO⟩
  -- arrival 2 along x
  iapply (step_wait m K c (rv (jx 2)) [jz 2, jz 3] (by decide) rfl (credit64 _)) $$ [HO Rx2]
  · isplitr; · iexact HR
    isplitr; · iexact Hlev
    isplitl [HO]; · iexact HO
    iexact Rx2
  iintro ⟨HO, ZRx2, P⟩
  ihave PRx2 := (Entails.of_eq (dpay_xR m c 2)) $$ P
  ihave P := (p1_halve c (rows 64 (2 : Fin 4).val) (landX m c)).1 $$ PRx2
  icases P with ⟨L2, M2⟩
  -- hop 2 along z
  iapply (step_hop_z m K c 2 [jz 3] _ (dev12_eq c) 128 rfl _ rfl rfl) $$ [L2 Dz2 HO Tz2]
  · isplitr; · iexact HR
    isplitl [L2]; · iexact L2
    isplitl [Dz2]; · iexact Dz2
    isplitl [HO]; · iexact HO
    iexact Tz2
  iintro ⟨Sz2, HO⟩
  -- arrival 3 along x
  iapply (step_wait m K c (rv (jx 3)) [jz 3] (by decide) rfl (credit64 _)) $$ [HO Rx3]
  · isplitr; · iexact HR
    isplitr; · iexact Hlev
    isplitl [HO]; · iexact HO
    iexact Rx3
  iintro ⟨HO, ZRx3, P⟩
  ihave PRx3 := (Entails.of_eq (dpay_xR m c 3)) $$ P
  ihave P := (p1_halve c (rows 64 (3 : Fin 4).val) (landX m c)).1 $$ PRx3
  icases P with ⟨L3, M3⟩
  -- hop 3 along z
  iapply (step_hop_z m K c 3 [] _ (dev13_eq c) 192 rfl _ rfl rfl) $$ [L3 Dz3 HO Tz3]
  · isplitr; · iexact HR
    isplitl [L3]; · iexact L3
    isplitl [Dz3]; · iexact Dz3
    isplitl [HO]; · iexact HO
    iexact Tz3
  iintro ⟨Sz3, HO⟩
  -- arrival 0 along y
  iapply (step_wait m K c (rv (jy 0)) [] (by decide) rfl (credit128 _)) $$ [HO Ry0]
  · isplitr; · iexact HR
    isplitr; · iexact Hlev
    isplitl [HO]; · iexact HO
    iexact Ry0
  iintro ⟨HO, ZRy0, P⟩
  ihave PRy0 := (Entails.of_eq (dpay_yR m c 0)) $$ P
  -- arrival 1 along y
  iapply (step_wait m K c (rv (jy 1)) [] (by decide) rfl (credit128 _)) $$ [HO Ry1]
  · isplitr; · iexact HR
    isplitr; · iexact Hlev
    isplitl [HO]; · iexact HO
    iexact Ry1
  iintro ⟨HO, ZRy1, P⟩
  ihave PRy1 := (Entails.of_eq (dpay_yR m c 1)) $$ P
  -- arrival 0 along z
  iapply (step_wait m K c (rv (jz 0)) [] (by decide) rfl (credit64 _)) $$ [HO Rz0]
  · isplitr; · iexact HR
    isplitr; · iexact Hlev
    isplitl [HO]; · iexact HO
    iexact Rz0
  iintro ⟨HO, ZRz0, P⟩
  ihave PRz0 := (Entails.of_eq (dpay_zR m c 0)) $$ P
  -- arrival 1 along z
  iapply (step_wait m K c (rv (jz 1)) [] (by decide) rfl (credit64 _)) $$ [HO Rz1]
  · isplitr; · iexact HR
    isplitr; · iexact Hlev
    isplitl [HO]; · iexact HO
    iexact Rz1
  iintro ⟨HO, ZRz1, P⟩
  ihave PRz1 := (Entails.of_eq (dpay_zR m c 1)) $$ P
  -- arrival 2 along z
  iapply (step_wait m K c (rv (jz 2)) [] (by decide) rfl (credit64 _)) $$ [HO Rz2]
  · isplitr; · iexact HR
    isplitr; · iexact Hlev
    isplitl [HO]; · iexact HO
    iexact Rz2
  iintro ⟨HO, ZRz2, P⟩
  ihave PRz2 := (Entails.of_eq (dpay_zR m c 2)) $$ P
  -- arrival 3 along z
  iapply (step_wait m K c (rv (jz 3)) [] (by decide) rfl (credit64 _)) $$ [HO Rz3]
  · isplitr; · iexact HR
    isplitr; · iexact Hlev
    isplitl [HO]; · iexact HO
    iexact Rz3
  iintro ⟨HO, ZRz3, P⟩
  ihave PRz3 := (Entails.of_eq (dpay_zR m c 3)) $$ P
  -- the received buffers whole, and their loads
  ihave HM := (Entails.of_eq (p1_cut c fullShare.right (landX m c)).symm) $$ [M0 M1 M2 M3]
  · isplitl [M0]; · iexact M0
    isplitl [M1]; · iexact M1
    isplitl [M2]; · iexact M2
    iexact M3
  ihave HZ := (Entails.of_eq (p2_cut c fullShare (landZ m c)).symm) $$ [PRz0 PRz1 PRz2 PRz3]
  · isplitl [PRz0]; · iexact PRz0
    isplitl [PRz1]; · iexact PRz1
    isplitl [PRz2]; · iexact PRz2
    iexact PRz3
  ihave HY := (Entails.of_eq (p4_cut c fullShare (landY m c)).symm) $$ [PRy0 PRy1]
  · isplitl [PRy0]; · iexact PRy0
    iexact PRy1
  unfold p1 p2 p4
  iapply (wp_load 𝒱₀ (c : Thread nD τ) none Set.univ (m := a1) (Finset.subset_univ _)) $$ HM; iintro HM
  rw [read_a1]
  ihave HM := (show (((c : Thread nD τ).loc cc0_scratch1) ↦{fullShare.right} landX m c) ⊢ p1 c Finset.univ fullShare.right (landX m c) from BI.Entails.refl _) $$ HM
  iapply (wp_load 𝒱₀ (c : Thread nD τ) none Set.univ (m := a2) (Finset.subset_univ _)) $$ HZ; iintro HZ
  rw [read_a2]
  ihave HZ := (show (((c : Thread nD τ).loc cc0_scratch2) ↦{fullShare} landZ m c) ⊢ p2 c Finset.univ fullShare (landZ m c) from BI.Entails.refl _) $$ HZ
  iapply (wp_load 𝒱₀ (c : Thread nD τ) none Set.univ (m := a4) (Finset.subset_univ _)) $$ HY; iintro HY
  rw [read_a4]
  ihave HY := (show (((c : Thread nD τ).loc cc0_scratch4) ↦{fullShare} landY m c) ⊢ p4 c Finset.univ fullShare (landY m c) from BI.Entails.refl _) $$ HY
  -- the two stores of the result
  iapply (wp_load 𝒱₀ (c : Thread nD τ) none Set.univ (m := (Memref.whole cc0_stg2_0 : Memref sig .tc .vmem S256x2048 .f32)) (Finset.subset_univ _)) $$ Hout; iintro Hout
  iapply (wp_store 𝒱₀ (c : Thread nD τ) none Set.univ (m := (Memref.whole cc0_stg2_0 : Memref sig .tc .vmem S256x2048 .f32)) (r := rcol 0 inb_S256x2048_S256x1024_0_0) (Mk := Finset.univ) (Finset.subset_univ _)) $$ Hout; iintro Hout
  iapply (wp_load 𝒱₀ (c : Thread nD τ) none Set.univ (m := (Memref.whole cc0_stg2_0 : Memref sig .tc .vmem S256x2048 .f32)) (Finset.subset_univ _)) $$ Hout; iintro Hout
  iapply (wp_store 𝒱₀ (c : Thread nD τ) none Set.univ (m := (Memref.whole cc0_stg2_0 : Memref sig .tc .vmem S256x2048 .f32)) (r := rcol 1024 inb_S256x2048_S256x1024_0_1024) (Mk := Finset.univ) (Finset.subset_univ _)) $$ Hout; iintro Hout
  rw [write_cols]
  -- departure 0 along x
  iapply (step_wait m K c (sd (jx 0)) [] (by decide) rfl (credit64 _)) $$ [HO Sx0]
  · isplitr; · iexact HR
    isplitr; · iexact Hlev
    isplitl [HO]; · iexact HO
    iexact Sx0
  iintro ⟨HO, ZSx0, P⟩
  ihave PSx0 := (Entails.of_eq (dpay_xS m c 0)) $$ P
  -- departure 1 along x
  iapply (step_wait m K c (sd (jx 1)) [] (by decide) rfl (credit64 _)) $$ [HO Sx1]
  · isplitr; · iexact HR
    isplitr; · iexact Hlev
    isplitl [HO]; · iexact HO
    iexact Sx1
  iintro ⟨HO, ZSx1, P⟩
  ihave PSx1 := (Entails.of_eq (dpay_xS m c 1)) $$ P
  -- departure 2 along x
  iapply (step_wait m K c (sd (jx 2)) [] (by decide) rfl (credit64 _)) $$ [HO Sx2]
  · isplitr; · iexact HR
    isplitr; · iexact Hlev
    isplitl [HO]; · iexact HO
    iexact Sx2
  iintro ⟨HO, ZSx2, P⟩
  ihave PSx2 := (Entails.of_eq (dpay_xS m c 2)) $$ P
  -- departure 3 along x
  iapply (step_wait m K c (sd (jx 3)) [] (by decide) rfl (credit64 _)) $$ [HO Sx3]
  · isplitr; · iexact HR
    isplitr; · iexact Hlev
    isplitl [HO]; · iexact HO
    iexact Sx3
  iintro ⟨HO, ZSx3, P⟩
  ihave PSx3 := (Entails.of_eq (dpay_xS m c 3)) $$ P
  -- departure 0 along z
  iapply (step_wait m K c (sd (jz 0)) [] (by decide) rfl (credit64 _)) $$ [HO Sz0]
  · isplitr; · iexact HR
    isplitr; · iexact Hlev
    isplitl [HO]; · iexact HO
    iexact Sz0
  iintro ⟨HO, ZSz0, P⟩
  ihave PSz0 := (Entails.of_eq (dpay_zS m c 0)) $$ P
  -- departure 1 along z
  iapply (step_wait m K c (sd (jz 1)) [] (by decide) rfl (credit64 _)) $$ [HO Sz1]
  · isplitr; · iexact HR
    isplitr; · iexact Hlev
    isplitl [HO]; · iexact HO
    iexact Sz1
  iintro ⟨HO, ZSz1, P⟩
  ihave PSz1 := (Entails.of_eq (dpay_zS m c 1)) $$ P
  -- departure 2 along z
  iapply (step_wait m K c (sd (jz 2)) [] (by decide) rfl (credit64 _)) $$ [HO Sz2]
  · isplitr; · iexact HR
    isplitr; · iexact Hlev
    isplitl [HO]; · iexact HO
    iexact Sz2
  iintro ⟨HO, ZSz2, P⟩
  ihave PSz2 := (Entails.of_eq (dpay_zS m c 2)) $$ P
  -- departure 3 along z
  iapply (step_wait m K c (sd (jz 3)) [] (by decide) rfl (credit64 _)) $$ [HO Sz3]
  · isplitr; · iexact HR
    isplitr; · iexact Hlev
    isplitl [HO]; · iexact HO
    iexact Sz3
  iintro ⟨HO, ZSz3, P⟩
  ihave PSz3 := (Entails.of_eq (dpay_zS m c 3)) $$ P
  -- departure 0 along y
  iapply (step_wait m K c (sd (jy 0)) [] (by decide) rfl (credit128 _)) $$ [HO Sy0]
  · isplitr; · iexact HR
    isplitr; · iexact Hlev
    isplitl [HO]; · iexact HO
    iexact Sy0
  iintro ⟨HO, ZSy0, P⟩
  ihave PSy0 := (Entails.of_eq (dpay_yS m c 0)) $$ P
  -- departure 1 along y
  iapply (step_wait m K c (sd (jy 1)) [] (by decide) rfl (credit128 _)) $$ [HO Sy1]
  · isplitr; · iexact HR
    isplitr; · iexact Hlev
    isplitl [HO]; · iexact HO
    iexact Sy1
  iintro ⟨HO, ZSy1, P⟩
  ihave PSy1 := (Entails.of_eq (dpay_yS m c 1)) $$ P
  rw [wp_ret]; imodintro
  -- everything back
  ihave HX := (Entails.of_eq (p0_cut c fullShare (sendX m c)).symm) $$ [PSx0 PSx1 PSx2 PSx3]
  · isplitl [PSx0]; · iexact PSx0
    isplitl [PSx1]; · iexact PSx1
    isplitl [PSx2]; · iexact PSx2
    iexact PSx3
  ihave HL := (Entails.of_eq (p1_cut c fullShare.left (landX m c)).symm) $$ [PSz0 PSz1 PSz2 PSz3]
  · isplitl [PSz0]; · iexact PSz0
    isplitl [PSz1]; · iexact PSz1
    isplitl [PSz2]; · iexact PSz2
    iexact PSz3
  ihave HLM := (p1_halve c Finset.univ (landX m c)).2 $$ [HL HM]
  · isplitl [HL]; · iexact HL
    iexact HM
  ihave HS := (Entails.of_eq (p3_cut c fullShare (sendY m c)).symm) $$ [PSy0 PSy1]
  · isplitl [PSy0]; · iexact PSy0
    iexact PSy1
  iapply Hk
  unfold bodyPost Φ₁ bufs Dat.owesAt Pipeline.owesWithin
  rw [show (dats m 0 c).owed t0_0.succ = 0 from rfl, cells_list]
  isplitr [HO Hx Hdy Hout]
  · isplitl [HX HLM HZ HS HY]
    · isplitl [HX]; · iexists _; iexact HX
      isplitl [HLM]; · iexists _; iexact HLM
      isplitl [HZ]; · iexists _; iexact HZ
      isplitl [HS]; · iexists _; iexact HS
      iexists _; iexact HY
    isplitr [ZB]
    · isplitl [ZRx0]; · iexact ZRx0
      isplitl [ZRx1]; · iexact ZRx1
      isplitl [ZRx2]; · iexact ZRx2
      isplitl [ZRx3]; · iexact ZRx3
      isplitl [ZRy0]; · iexact ZRy0
      isplitl [ZRy1]; · iexact ZRy1
      isplitl [ZRz0]; · iexact ZRz0
      isplitl [ZRz1]; · iexact ZRz1
      isplitl [ZRz2]; · iexact ZRz2
      isplitl [ZRz3]; · iexact ZRz3
      isplitl [ZSx0]; · iexact ZSx0
      isplitl [ZSx1]; · iexact ZSx1
      isplitl [ZSx2]; · iexact ZSx2
      isplitl [ZSx3]; · iexact ZSx3
      isplitl [ZSz0]; · iexact ZSz0
      isplitl [ZSz1]; · iexact ZSz1
      isplitl [ZSz2]; · iexact ZSz2
      isplitl [ZSz3]; · iexact ZSz3
      isplitl [ZSy0]; · iexact ZSy0
      iexact ZSy1
    iexact ZB
  isplitl [HO]
  · unfold ow due
    icases HO with ⟨%W', HO⟩
    iexists W'
    isplitr; · ipureintro; exact fun _ _ => Or.inl trivial
    iexact HO
  isplitl [Hx]
  · iexists _; isplitr; · (ipureintro; rfl)
    iexact Hx
  isplitl [Hdy]
  · iexists _; isplitr; · (ipureintro; rfl)
    iexact Hdy
  iexists _; isplitr; · (ipureintro; rfl)
  iexact Hout

end Body

end Cert.KernelIdealProof

end
-- ==== Proof.RunKernelIdeal.lean ====
/-
# 01_k — the launch: the cells' invariants, the tokens and credits dealt out, and the run of @main
-/
module

public import proofs.«01_k».proof.Proof.BodyKernelIdeal
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ wp frame (wpE (defs₀ (F := F)) 𝒱₀ (c : Thread nD τ) none) Set.univ (bodyAt0 (F := F) t0_0) (fun _ => bodyPost m c)
  iintro H
  iapply (sound_body m c fun _ => bodyPost m c)
  isplitl [H]; · iexact H
  iintro H; iexact H

/-! ## Conjunctions regrouped -/

/-- The twenty transfer cells are the hops' departure cells and arrival cells. -/
def cellsEquiv : Fin 10 ⊕ Fin 10 ≃ Fin 20 :=
  Equiv.ofBijective (Sum.elim sd rv) ((Fintype.bijective_iff_injective_and_card _).2 ⟨by decide, by simp⟩)

theorem cells_split (Φ : Fin 20 → sProp 𝕄) :
    bigSep Finset.univ Φ = iprop((bigSep Finset.univ fun j : Fin 10 => Φ (sd j)) ∗ bigSep Finset.univ fun j : Fin 10 => Φ (rv j)) := by
  rw [bigSep_univ_equiv cellsEquiv, BI.bigSep_univ_sum]; rfl

theorem option_split (Φ : Option (Fin 20) → sProp 𝕄) :
    bigSep Finset.univ Φ = iprop(Φ none ∗ bigSep Finset.univ fun k : Fin 20 => Φ (some k)) := by
  rw [bigSep_univ_at Φ none, show (Finset.univ.erase none : Finset (Option (Fin 20))) = Finset.univ.map Function.Embedding.some from by
    ext x; cases x <;> simp, bigSep_map]
  rfl

/-- A conjunction over devices of conjunctions over mutual partners, each taken at its partner instead. -/
theorem around {J : Type} [Fintype J] (p : J → Dev nD → Dev nD) (hp : ∀ j c, p j (p j c) = c) (Φ : J → Dev nD → sProp 𝕄) :
    (bigSep Finset.univ fun c : Dev nD => bigSep Finset.univ fun j : J => Φ j c)
      = bigSep Finset.univ fun c : Dev nD => bigSep Finset.univ fun j : J => Φ j (p j c) := by
  rw [← bigSep_univ_prod (fun cj : Dev nD × J => Φ cj.2 cj.1), ← bigSep_univ_prod (fun cj : Dev nD × J => Φ cj.2 (p cj.2 cj.1))]
  exact bigSep_univ_equiv (⟨fun cj => (p cj.2 cj.1, cj.2), fun cj => (p cj.2 cj.1, cj.2), fun cj => Prod.ext (hp cj.2 cj.1) rfl,
    fun cj => Prod.ext (hp cj.2 cj.1) rfl⟩ : Dev nD × J ≃ Dev nD × J) (fun cj => Φ cj.2 cj.1)

/-! ## What the launch deals out -/

theorem ownSemFacts : Pipeline.OwnSemFacts cfg0.spec osem := by decide
theorem share_eq (c : Dev nD) (w : Fin cfg0.W) : (dats m 0 c).share w = fullShare := by unfold Dat.share; split <;> rfl

theorem kcell_injective : Function.Injective (kcell : Dev nD × Option (Fin 20) → GSem nD τ sig) := by
  rintro ⟨c, k⟩ ⟨c', k'⟩ h
  have h1 : c = c' := congrArg (fun g : GSem nD τ sig => g.1.1) h
  subst h1
  have h2 : csem k = csem k' := congrArg Prod.snd h
  cases k with
  | none => cases k' with
    | none => rfl
    | some b => exact absurd h2 (fun h => by cases h)
  | some a => cases k' with
    | none => exact absurd h2 (fun h => by cases h)
    | some b => rw [dsem_inj (SemLoc.dma.inj h2)]
def allCells : Finset (GSem nD τ sig) := Finset.univ.map ⟨kcell, kcell_injective⟩

/-- The tokens minted for a device's own cells: its barrier cell's three, and one for each transfer cell. -/
abbrev tokOf (cj : Dev nD × (Fin 3 ⊕ Fin 20)) : GSem nD τ sig × ℕ × Fin 3 := match cj.2 with
  | .inl d => (barCell cj.1, 0, d)
  | .inr k => (dcell cj.1 k, 0, 0)
theorem tokOf_injective : Function.Injective (tokOf : Dev nD × (Fin 3 ⊕ Fin 20) → GSem nD τ sig × ℕ × Fin 3) := by
  rintro ⟨c, j⟩ ⟨c', j'⟩ h
  have h1 : c = c' := by
    have := congrArg (fun x : GSem nD τ sig × ℕ × Fin 3 => x.1.1.1) h
    cases j <;> cases j' <;> exact this
  subst h1
  have h2 := congrArg (fun x : GSem nD τ sig × ℕ × Fin 3 => (x.1.2, x.2.2)) h
  cases j with
  | inl d => cases j' with
    | inl d' => rw [show d = d' from congrArg Prod.snd h2]
    | inr k' => exact absurd (congrArg Prod.fst h2) (fun h => by cases h)
  | inr k => cases j' with
    | inl d' => exact absurd (congrArg Prod.fst h2) (fun h => by cases h)
    | inr k' => rw [dsem_inj (SemLoc.dma.inj (congrArg Prod.fst h2))]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 3 => dutyTok ER (barCell c) 0 d) ∗ bigSep Finset.univ fun k : Fin 20 => dutyTok ER (dcell c k) 0 0)

/-- What the launch's element deals device `c`. -/
def G (c : Dev nD) : sProp 𝕄 :=
  iprop((bigSep Finset.univ fun k : Option (Fin 20) => roundState ER (Rd m) (kcell (c, k)) 0)
    ∗ (bigSep Finset.univ fun k : Option (Fin 20) => iprop(atPos ER (kcell (c, k)) 0 ∅ 0 ∗ reached ER (kcell (c, k)) 0)) ∗ toks c)

/-- What stays with device `c` once the tokens are dealt to the devices that pay them. -/
def kept (c : Dev nD) : sProp 𝕄 :=
  iprop(atPos ER (barCell c) 0 ∅ 0
    ∗ (bigSep Finset.univ fun d : Fin 3 => dutyTok ER (barCell (bpeer d c)) 0 d)
    ∗ (bigSep Finset.univ fun j : Fin 10 => tk c j)
    ∗ (bigSep Finset.univ fun j : Fin 10 => atPos ER (dcell c (rv j)) 0 ∅ 0))

/-- What the global step makes of it. -/
def G' (c : Dev nD) : sProp 𝕄 := iprop(∃ K, recs m K ∗ kept c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option (Fin 20) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Fin 20 => zv c k := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  ihave Hv := (Entails.of_eq (option_split (F := F) fun k => semVal (kcell (c, k)) 0).symm) $$ [Hos Hus]
  · isplitl [Hus]; · iexact Hus
    iexact Hos
  imod (show iprop((bigSep Finset.univ fun k : Option (Fin 20) => semVal (kcell (c, k)) 0) ∗ bigSep Finset.univ fun k : Option (Fin 20) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The positions and tokens of every device, each token at the device that pays it. -/
theorem deal :
    iprop((bigSep Finset.univ fun c : Dev nD => bigSep Finset.univ fun k : Option (Fin 20) => atPos ER (kcell (c, k)) 0 ∅ 0)
        ∗ bigSep Finset.univ fun c : Dev nD => toks c)
      ⊢ (bigSep Finset.univ fun c : Dev nD => kept c : sProp 𝕄) := by
  unfold kept toks tk
  rw [bigSep_congr (s := Finset.univ) (fun (c : Dev nD) _ => option_split (F := F) fun k => atPos ER (kcell (c, k)) 0 ∅ 0),
    bigSep_congr (s := Finset.univ) (fun (c : Dev nD) _ => congrArg (fun P => iprop(atPos ER (kcell (c, none)) 0 ∅ 0 ∗ P)) (cells_split (F := F) fun k => atPos ER (kcell (c, some k)) 0 ∅ 0)),
    bigSep_congr (s := Finset.univ) (fun (c : Dev nD) _ => congrArg (fun P => iprop((bigSep Finset.univ fun d : Fin 3 => dutyTok ER (barCell c) 0 d) ∗ P)) (cells_split (F := F) fun k => dutyTok ER (dcell c k) 0 0))]
  simp only [bigSep_sep']
  rw [around (F := F) bpeer bpeer_bpeer (fun d c => dutyTok ER (barCell c) 0 d),
    around (F := F) peer peer_peer (fun j c => dutyTok ER (dcell c (rv j)) 0 0)]
  iintro ⟨⟨Hb, Hs, Hr⟩, Ht, Hts, Htr⟩
  isplitl [Hb]; · iexact Hb
  isplitl [Ht]; · iexact Ht
  isplitr [Hr]
  · isplitl [Hts]; · iexact Hts
    isplitl [Htr]; · iexact Htr
    iexact Hs
  iexact Hr

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Fin 20) => iprop(∃ κ : ℕ, cellInv ER (Rd m) κ (kcell ck))),
    bigSep_congr (s := Finset.univ) (fun (c : Dev nD) _ => bigSep_sep' Finset.univ (fun k : Option (Fin 20) => (atPos ER (kcell (c, k)) 0 ∅ 0 : sProp 𝕄)) (fun k => reached ER (kcell (c, k)) 0)),
    bigSep_sep', ← bigSep_univ_prod (fun ck : Dev nD × Option (Fin 20) => (reached ER (kcell ck) 0 : sProp 𝕄))]
  iintro ⟨HI, ⟨Hat, #HR⟩, Htok⟩
  ihave HK := (BI.bigSep_exists_pi Finset.univ (fun (ck : Dev nD × Option (Fin 20)) (κ : ℕ) => (cellInv ER (Rd m) κ (kcell ck) : sProp 𝕄))) $$ HI
  icases HK with ⟨%K, #HI⟩
  iapply (with_persistent (R := recs m K) (Φ := fun c => kept c) fun c _ => by unfold G'; iintro ⟨H1, H2⟩; iexists K; isplitl [H1] <;> iassumption)
  isplitr
  · unfold recs; isplitl; · iexact HI
    iexact HR
  iapply (deal (F := F))
  isplitl [Hat]; · iexact Hat
  iexact Htok

/-- The global step: every device's semaphores become invariants, and the tokens are dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

/-- The credit of the arrival of each hop of `l` at device `c`. -/
def credL (c : Dev nD) : List (Fin 10) → sProp 𝕄
  | [] => iprop(emp)
  | j :: l => iprop(cred (tallyAt (dcell c (rv j)) () (Nd (rv j).val)) ∗ credL c l)

theorem creds_due (c : Dev nD) (l : List (Fin 10)) : (Pipeline.launchCred (fun d => due d l) c : sProp 𝕄) ⊢ credL c l := by
  induction l with
  | nil => exact Entails.of_eq (Pipeline.launchCred_zero c)
  | cons j l ih =>
    unfold due credL
    rw [Pipeline.launchCred_add]
    iintro ⟨H1, H2⟩
    isplitl [H2]
    · iapply (Pipeline.launchCred_tallyAt (.dma (dsem (rv j))) (peer j) (peer j) (peer_peer j) (peer_peer j) () (Nd (rv j).val) c); iexact H2
    iapply ih; iexact H1

theorem hops_intro (Φ : Fin 10 → sProp 𝕄) :
    iprop(Φ (jx 0) ∗ Φ (jx 1) ∗ Φ (jx 2) ∗ Φ (jx 3) ∗ Φ (jy 0) ∗ Φ (jz 0) ∗ Φ (jz 1) ∗ Φ (jy 1) ∗ Φ (jz 2) ∗ Φ (jz 3) ∗ emp) ⊢ bigSep Finset.univ Φ := by
  rw [hops_list]
  iintro ⟨H0, H1, H2, H3, H4, H5, H6, H7, H8, H9, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem credL_order (c : Dev nD) : (credL c order : sProp 𝕄) ⊢ bigSep Finset.univ fun j : Fin 10 => cred (tallyAt (dcell c (rv j)) () (Nd (rv j).val)) :=
  hops_intro (F := F) fun j => cred (tallyAt (dcell c (rv j)) () (Nd (rv j).val))

theorem creds (c : Dev nD) : (Pipeline.launchCred O₀ c : sProp 𝕄)
    ⊢ iprop(cred (tallyAt (barCell c) () 3) ∗ bigSep Finset.univ fun j : Fin 10 => cred (tallyAt (dcell c (rv j)) () (Nd (rv j).val))) := by
  rw [show (O₀ : Dev nD → CellTallies nD τ sig Unit) = fun d => ((due d order + tallyAt (barCell (zp d)) () 1) + tallyAt (barCell (yp d)) () 1) + tallyAt (barCell (xp d)) () 1 from rfl,
    Pipeline.launchCred_add, Pipeline.launchCred_add, Pipeline.launchCred_add]
  iintro ⟨⟨⟨H, Hz⟩, Hy⟩, Hx⟩
  ihave H := (creds_due (F := F) c order) $$ H
  ihave Hx := (Pipeline.launchCred_tallyAt (.reg barS) xp xp xp_xp xp_xp () 1 c) $$ Hx
  ihave Hy := (Pipeline.launchCred_tallyAt (.reg barS) yp yp yp_yp yp_yp () 1 c) $$ Hy
  ihave Hz := (Pipeline.launchCred_tallyAt (.reg barS) zp zp zp_zp zp_zp () 1 c) $$ Hz
  isplitl [Hx Hy Hz]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [Hx]; · iexact Hx
    iapply (cred_add _ _).2
    isplitl [Hy] <;> iassumption
  iapply (credL_order (F := F) c); iexact H

/-! ## The region's ends -/

/-- What a device's body starts with beside its buffers. -/
def start (c : Dev nD) : sProp 𝕄 := iprop(∃ K, recs m K ∗ levAts L lv ∗ lin c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G' kept lin rx
  rw [bigSep_sep']
  icases HG with ⟨%K, HR, Hat, Hb, Ht, Hp⟩
  isplitl
  · iexists K
    isplitl [HR]; · iexact HR
    isplitl [Hlev]; · iexact Hlev
    isplitl [Hat H1]
    · isplitl [Hat] <;> iassumption
    isplitl [Hb]; · iexact Hb
    isplitl [Ht]; · iexact Ht
    isplitl [Hp] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start bufs p0 p1 p2 p3 p4
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ bufs p0 p1 p2 p3 p4
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the sixteen devices, from any memory with zero counters: @main terminates, and in every final state each device's
    arrays are at the contents computed here and every semaphore counter is zero. -/
theorem run_main : θ_run defs (onTc (τ := τ) (main (F := F))) (⟨m, fun _ => 0, ρ⟩ : MemSt nD τ sig (Elt F)) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run are as launched. -/
theorem final_0 (c : Dev nD) : finalA m c (0 : Fin 3) = m (win0_0.arr.view.loc (c : Thread nD τ)) := (dats (F := F) m 0 c).arrAt_in (0 : Fin 3) rfl _
theorem final_1 (c : Dev nD) : finalA m c (1 : Fin 3) = m (win0_1.arr.view.loc (c : Thread nD τ)) := (dats (F := F) m 0 c).arrAt_in (1 : Fin 3) rfl _

end Cert.KernelIdealProof

end
-- ==== Proof.ValueKernelIdeal.lean ====
/-
# 01_k — over the reals: what the kernel leaves in each device's result, entry by entry
-/
module

public import proofs.«01_k».proof.Proof.RunKernelIdeal
public import Idealize.ShloMosaic.Lib.Pointwise
public import Idealize.ShloMosaic.Lib.Pipeline.ValueKit.Geometry

@[expose] public section

set_option maxRecDepth 16384

noncomputable section

namespace Cert.KernelIdealProof

open Cert.KernelIdeal Cert.KernelIdeal.Gen
open Idealize.ShloMosaic Idealize.SL.Sem Idealize.ShloMosaic.Pointwise Idealize.ShloMosaic.TcCoe Idealize.ShloMosaic.Pipeline

/-! ## The quantiser -/

/-- The quantised value, an integer between −127 and 127: scaled by 127/128, rounded to nearest even, clipped. -/
def q8 (x : EReal) : EReal :=
  min (Ideal.ofBits .f32 0x42FE0000#32) (max (Ideal.ofBits .f32 0xC2FE0000#32) (Ideal.liftRound Ideal.roundHalfEven (x * Ideal.ofBits .f32 0x3F7E0000#32)))
/-- The quantised value scaled back. -/
def wire (x : EReal) : EReal := q8 x * Ideal.ofBits .f32 0x3F810204#32
/-- The quantised value as the eight bits that travel. -/
def w8 (x : EReal) : BitVec 8 := FloatOps.fptosi (F := Ideal) (φ := .f32) 8 (q8 x)

theorem ofBits_hi : Ideal.ofBits .f32 0x42FE0000#32 = ((127 : ℝ) : EReal) := by
  simp [Ideal.ofBits, Ideal.ieee, -EReal.coe_mul]; norm_num
theorem ofBits_lo : Ideal.ofBits .f32 0xC2FE0000#32 = ((-127 : ℝ) : EReal) := by
  simp [Ideal.ofBits, Ideal.ieee, -EReal.coe_mul]; norm_num

theorem q8_int (x : EReal) : ∃ n : ℤ, -127 ≤ n ∧ n ≤ 127 ∧ q8 x = ((n : ℝ) : EReal) := by
  unfold q8
  rw [ofBits_hi, ofBits_lo]
  generalize x * Ideal.ofBits .f32 0x3F7E0000#32 = y
  induction y with
  | bot => exact ⟨-127, by norm_num, by norm_num, by
      rw [Ideal.liftRound_bot, max_bot_right, min_eq_right (EReal.coe_le_coe_iff.2 (by norm_num))]; norm_num⟩
  | top => exact ⟨127, by norm_num, by norm_num, by simp only [Ideal.liftRound_top, max_top_right, min_top_right]; norm_cast⟩
  | coe r =>
    refine ⟨min 127 (max (-127) (Ideal.roundHalfEven r)), by omega, by omega, ?_⟩
    rw [Ideal.liftRound_coe, ← EReal.coe_strictMono.monotone.map_max, ← EReal.coe_strictMono.monotone.map_min]
    congr 1
    push_cast
    rfl

/-- The eight bits read back are the quantised value: nothing is lost on the wire but what the quantiser drops. -/
theorem sitofp_w8 (x : EReal) : FloatOps.sitofp (F := Ideal) .f32 (w8 x) = q8 x := by
  obtain ⟨n, h1, h2, hn⟩ := q8_int x
  unfold w8
  rw [hn]
  show (((Ideal.fptosi 8 ((n : ℝ) : EReal)).toInt : ℝ) : EReal) = _
  unfold Ideal.fptosi
  rw [Ideal.toIntClamped_coe, Int.floor_intCast, Int.ceil_intCast, ite_self,
    show max (-((2 ^ (8 - 1) : ℕ) : ℤ)) (min (((2 ^ (8 - 1) : ℕ) : ℤ) - 1) n) = n from by norm_num; omega,
    BitVec.toInt_ofInt, Int.bmod_eq_of_le (by norm_num; omega) (by norm_num; omega)]

/-! ## A device's place -/

def hx (c : Dev nD) : ℕ := c.val / 8
def hy (c : Dev nD) : ℕ := c.val / 4 % 2
def hr (c : Dev nD) : ℕ := c.val % 2

theorem hx_lt (c : Dev nD) : hx c < 2 := by revert c; decide
theorem hy_lt (c : Dev nD) : hy c < 2 := by revert c; decide
theorem hr_lt (c : Dev nD) : hr c < 2 := by revert c; decide
theorem hx_xp (c : Dev nD) : hx (xp c) = 1 - hx c := by revert c; decide
theorem hr_xp (c : Dev nD) : hr (xp c) = hr c := by revert c; decide
theorem hx_zp (c : Dev nD) : hx (zp c) = hx c := by revert c; decide
theorem hr_zp (c : Dev nD) : hr (zp c) = 1 - hr c := by revert c; decide
theorem hx_yp (c : Dev nD) : hx (yp c) = hx c := by revert c; decide
theorem hy_yp (c : Dev nD) : hy (yp c) = 1 - hy c := by revert c; decide

theorem is_x (c : Dev nD) : Scalar.cmpi .eq (wx c) 0#32 = if hx c = 0 then 1#1 else 0#1 := by revert c; decide
theorem is_y (c : Dev nD) : Scalar.cmpi .eq (wy c) 0#32 = if hy c = 0 then 1#1 else 0#1 := by revert c; decide
theorem is_r (c : Dev nD) : Scalar.cmpi .eq (wr c) 0#32 = if hr c = 0 then 1#1 else 0#1 := by revert c; decide

theorem select_one {α : Type} (a b : α) : Scalar.select 1#1 a b = a := rfl
theorem select_zero {α : Type} (a b : α) : Scalar.select 0#1 a b = b := rfl

/-! ## The products -/

/-- An entry of the product of `x`'s transpose with `dy`, over one device's rows. -/
def pd (X : S512x512.Idx → EReal) (Y : S512x2048.Idx → EReal) (i n : ℕ) (hi : i < 512) (hn : n < 2048) : EReal :=
  ∑ k : Fin 512, X (ix2 k ⟨i, hi⟩) * Y (ix2 k ⟨n, hn⟩)

theorem pd_congr (X : S512x512.Idx → EReal) (Y : S512x2048.Idx → EReal) {i i' n n' : ℕ} (hi hi' hn hn') (h1 : i = i') (h2 : n = n') :
    pd X Y i n hi hn = pd X Y i' n' hi' hn' := by subst h1; subst h2; rfl

variable (m : (ℓ : Loc nD τ sig) → Buf (Elt Ideal) ℓ)

theorem xkeep_apply (c : Dev nD) (k : Fin 512) (i : Fin 256) :
    xkeep m c (ix2 k i) = xstg m c (ix2 k ⟨256 * hx c + i.val, by have := hx_lt c; omega⟩) := by
  unfold xkeep
  pointwise [k0_pay3, k0_pay1, is_x]
  have h := hx_lt c
  obtain h | h : hx c = 0 ∨ hx c = 1 := by omega
  all_goals simp [h, select_one, select_zero]

theorem xsend_apply (c : Dev nD) (k : Fin 512) (i : Fin 256) :
    xsend m c (ix2 k i) = xstg m c (ix2 k ⟨256 * (1 - hx c) + i.val, by omega⟩) := by
  unfold xsend
  pointwise [k0_pay4, k0_pay1, is_x]
  have h := hx_lt c
  obtain h | h : hx c = 0 ∨ hx c = 1 := by omega
  all_goals simp [h, select_one, select_zero]

theorem dyr_apply (c : Dev nD) (k : Fin 512) (j : Fin 1024) :
    dyr m c (ix2 k j) = dystg m c (ix2 k ⟨1024 * hr c + j.val, by have := hr_lt c; omega⟩) := by
  unfold dyr
  pointwise [k0_pay5, k0_pay2, is_r]
  have h := hr_lt c
  obtain h | h : hr c = 0 ∨ hr c = 1 := by omega
  all_goals simp [h, select_one, select_zero]

theorem dyh_apply (c : Dev nD) (k : Fin 512) (j : Fin 1024) :
    dyh m c (ix2 k j) = dystg m c (ix2 k ⟨1024 * hy c + j.val, by have := hy_lt c; omega⟩) := by
  unfold dyh
  pointwise [k0_pay6, k0_pay2, is_y]
  have h := hy_lt c
  obtain h | h : hy c = 0 ∨ hy c = 1 := by omega
  all_goals simp [h, select_one, select_zero]

theorem own_apply (c : Dev nD) (i : Fin 256) (j : Fin 1024) :
    own m c (ix2 i j) = pd (xstg m c) (dystg m c) (256 * hx c + i.val) (1024 * hy c + j.val) (by have := hx_lt c; omega) (by have := hy_lt c; omega) := by
  unfold own
  pointwise [k0_pay19, k0_pay13, k0_pay15, xkeep_apply, dyh_apply]
  split
  · rfl
  · exact pd_congr _ _ _ _ _ _ (by omega) rfl

/-- A quarter of what goes to the `x` partner: rows `64 i` to `64 i + 63`. -/
theorem pieceX_apply (c : Dev nD) (i : Fin 4) (a : Fin 64) (j : Fin 1024) :
    pieceX m c i (ix2 a j) = w8 (pd (xstg m c) (dystg m c) (256 * (1 - hx c) + (64 * i.val + a.val)) (1024 * hr c + j.val) (by omega) (by have := hr_lt c; omega)) := by
  match i with
  | 0 =>
    show k0_pay8 (k0_pay7 (wx c) (wr c) (xstg m c) (dystg m c)) (ix2 a j) = _
    have hs : ∀ k i, k0_pay4 (F := Ideal) (wx c) (xstg m c) (ix2 k i) = _ := xsend_apply m c
    have hd : ∀ k j, k0_pay5 (F := Ideal) (wr c) (dystg m c) (ix2 k j) = _ := dyr_apply m c
    pointwise [k0_pay8, k0_pay7, hs, hd]
    exact congrArg w8 (pd_congr _ _ _ _ _ _ (by simp) rfl)
  | 1 =>
    show k0_pay9 (xsend m c) (dyr m c) (ix2 a j) = _
    pointwise [k0_pay9, xsend_apply, dyr_apply]
    rfl
  | 2 =>
    show k0_pay10 (xsend m c) (dyr m c) (ix2 a j) = _
    pointwise [k0_pay10, xsend_apply, dyr_apply]
    rfl
  | 3 =>
    show k0_pay12 (k0_pay11 (xsend m c) (dyr m c)) (Scalar.ofBits .f32 0x3F7E0000#32) (ix2 a j) = _
    pointwise [k0_pay12, k0_pay11, xsend_apply, dyr_apply]
    rfl

/-- A half of what goes to the `y` partner: rows `128 i` to `128 i + 127`. -/
theorem pieceY_apply (c : Dev nD) (i : Fin 2) (a : Fin 128) (j : Fin 1024) :
    pieceY m c i (ix2 a j) = w8 (pd (xstg m c) (dystg m c) (256 * hx c + (128 * i.val + a.val)) (1024 * hy c + j.val)
      (by have := hx_lt c; omega) (by have := hy_lt c; omega)) := by
  match i with
  | 0 =>
    show k0_pay14 (xkeep m c) (dyh m c) (ix2 a j) = _
    pointwise [k0_pay14, k0_pay13, xkeep_apply, dyh_apply]
    exact congrArg w8 (pd_congr _ _ _ _ _ _ (by simp) rfl)
  | 1 =>
    show k0_pay18 (k0_pay16 (xkeep m c) (dyh m c)) (Scalar.ofBits .f32 0x42FE0000#32) k0_pay17 (ix2 a j) = _
    pointwise [k0_pay18, k0_pay16, k0_pay17, k0_pay15, xkeep_apply, dyh_apply]
    rfl

theorem glue64_apply {T : Type} (p : Fin 4 → S64x1024.Idx → T) (i : Fin 256) (j : Fin 1024) :
    glue64 p (ix2 i j) = p ⟨i.val / 64, by omega⟩ (ix2 ⟨i.val % 64, Nat.mod_lt _ (by decide)⟩ j) := by
  unfold glue64
  refine congrArg _ (funext fun a => ?_)
  match a with
  | ⟨0, _⟩ => rfl
  | ⟨1, _⟩ => rfl
theorem glue128_apply {T : Type} (p : Fin 2 → S128x1024.Idx → T) (i : Fin 256) (j : Fin 1024) :
    glue128 p (ix2 i j) = p ⟨i.val / 128, by omega⟩ (ix2 ⟨i.val % 128, Nat.mod_lt _ (by decide)⟩ j) := by
  unfold glue128
  refine congrArg _ (funext fun a => ?_)
  match a with
  | ⟨0, _⟩ => rfl
  | ⟨1, _⟩ => rfl

theorem sendX_apply (c : Dev nD) (i : Fin 256) (j : Fin 1024) :
    sendX m c (ix2 i j) = w8 (pd (xstg m c) (dystg m c) (256 * (1 - hx c) + i.val) (1024 * hr c + j.val) (by omega) (by have := hr_lt c; omega)) := by
  unfold sendX
  rw [glue64_apply, pieceX_apply]
  exact congrArg w8 (pd_congr _ _ _ _ _ _ (by simp only; omega) rfl)
theorem sendY_apply (c : Dev nD) (i : Fin 256) (j : Fin 1024) :
    sendY m c (ix2 i j) = w8 (pd (xstg m c) (dystg m c) (256 * hx c + i.val) (1024 * hy c + j.val)
      (by have := hx_lt c; omega) (by have := hy_lt c; omega)) := by
  unfold sendY
  rw [glue128_apply, pieceY_apply]
  exact congrArg w8 (pd_congr _ _ _ _ _ _ (by simp only; omega) rfl)

/-! ## The result -/

/-- The shapes of the two whole arrays. -/
abbrev SX : Shape := ⟨2, ![1024, 512]⟩
abbrev SY : Shape := ⟨2, ![1024, 2048]⟩

/-- The product of the whole arrays over one half of the shared dimension. -/
def half (X : SX.Idx → EReal) (Y : SY.Idx → EReal) (p i n : ℕ) (hp : p < 2) (hi : i < 512) (hn : n < 2048) : EReal :=
  ∑ k : Fin 512, X (ix2 ⟨512 * p + k.val, by omega⟩ ⟨i, hi⟩) * Y (ix2 ⟨512 * p + k.val, by omega⟩ ⟨n, hn⟩)

theorem half_congr (X : SX.Idx → EReal) (Y : SY.Idx → EReal) {p p' i i' n n' : ℕ} (hp hp' hi hi' hn hn')
    (e : p = p') (e1 : i = i') (e2 : n = n') : half X Y p i n hp hi hn = half X Y p' i' n' hp' hi' hn' := by subst e e1 e2; rfl

/-- An entry of the result in the block at `(px, py)`: the half product over the rows' own half of the shared
    dimension, quantised in the columns that the `y` partner computes, and the other half product, quantised. -/
def outVal (X : SX.Idx → EReal) (Y : SY.Idx → EReal) (px py i n : ℕ) (hpx : px < 2) (hi : i < 256) (hn : n < 2048) : EReal :=
  (if n / 1024 = py then half X Y px (256 * px + i) n hpx (by omega) hn else wire (half X Y px (256 * px + i) n hpx (by omega) hn))
    + wire (half X Y (1 - px) (256 * px + i) n (by omega) (by omega) hn)

theorem select_apply {T : Type} (b : BitVec 1) (u v : S256x1024.Idx → T) (j : S256x1024.Idx) :
    Scalar.select b u v j = Scalar.select b (u j) (v j) := by
  unfold Scalar.select; split <;> rfl

/-- What came over the wire, scaled back. -/
theorem back_w8 (x : EReal) : FloatOps.sitofp (F := Ideal) .f32 (w8 x) * Ideal.ofBits .f32 0x3F810204#32 = wire x := by
  rw [sitofp_w8]; rfl

theorem row_lt (c : Dev nD) (k : Fin 512) : 512 * hx c + k.val < 1024 := by have := hx_lt c; omega

section Out

variable (X : SX.Idx → EReal) (Y : SY.Idx → EReal)
  (hX : ∀ (c : Dev nD) (k i : Fin 512), xstg m c (ix2 k i) = X (ix2 ⟨512 * hx c + k.val, row_lt c k⟩ i))
  (hY : ∀ (c : Dev nD) (k : Fin 512) (n : Fin 2048), dystg m c (ix2 k n) = Y (ix2 ⟨512 * hx c + k.val, row_lt c k⟩ n))

include hX hY

/-- A device's product is the half product over its half of the shared dimension. -/
theorem pd_half (c : Dev nD) (p i n : ℕ) (hi hn) (hp : p < 2) (e : hx c = p) : pd (xstg m c) (dystg m c) i n hi hn = half X Y p i n hp hi hn := by
  subst e
  unfold pd half
  exact Finset.sum_congr rfl fun k _ => by rw [hX, hY]

theorem own_half (c : Dev nD) (i : Fin 256) (j : Fin 1024) : own m c (ix2 i j) = half X Y (hx c) (256 * hx c + i.val) (1024 * hy c + j.val)
    (hx_lt c) (by have := hx_lt c; omega) (by have := hy_lt c; omega) := by
  rw [own_apply]; exact pd_half m X Y hX hY c _ _ _ _ _ _ rfl

theorem landX_half (c : Dev nD) (i : Fin 256) (j : Fin 1024) : landX m c (ix2 i j) = w8 (half X Y (1 - hx c) (256 * hx c + i.val) (1024 * hr c + j.val)
    (by omega) (by have := hx_lt c; omega) (by have := hr_lt c; omega)) := by
  unfold landX
  rw [sendX_apply, pd_half m X Y hX hY (xp c) (1 - hx c) _ _ _ _ (by omega) (hx_xp c)]
  have h1 := hx_xp c; have h2 := hr_xp c; have h3 := hx_lt c
  exact congrArg w8 (half_congr _ _ _ _ _ _ _ _ rfl (by omega) (by omega))

theorem landZ_half (c : Dev nD) (i : Fin 256) (j : Fin 1024) : landZ m c (ix2 i j) = w8 (half X Y (1 - hx c) (256 * hx c + i.val) (1024 * (1 - hr c) + j.val)
    (by omega) (by have := hx_lt c; omega) (by omega)) := by
  show landX m (zp c) (ix2 i j) = _
  rw [landX_half m X Y hX hY (zp c) i j]
  have h1 := hx_zp c; have h2 := hr_zp c
  exact congrArg w8 (half_congr _ _ _ _ _ _ _ _ (by omega) (by omega) (by omega))

theorem landY_half (c : Dev nD) (i : Fin 256) (j : Fin 1024) : landY m c (ix2 i j) = w8 (half X Y (hx c) (256 * hx c + i.val) (1024 * (1 - hy c) + j.val)
    (hx_lt c) (by have := hx_lt c; omega) (by omega)) := by
  unfold landY
  rw [sendY_apply, pd_half m X Y hX hY (yp c) (hx c) _ _ _ _ (hx_lt c) (hx_yp c)]
  have h1 := hx_yp c; have h2 := hy_yp c
  exact congrArg w8 (half_congr _ _ _ _ _ _ _ _ rfl (by omega) (by omega))

/-- The left half of the columns. -/
theorem left_apply (c : Dev nD) (i : Fin 256) (j : Fin 1024) :
    k0_pay23 (Scalar.cmpi .eq (wr c) 0#32) (Scalar.cmpi .eq (wy c) 0#32) (own m c) (landX m c) (landZ m c) (landY m c) (ix2 i j)
      = outVal X Y (hx c) (hy c) i.val j.val (hx_lt c) i.isLt (by omega) := by
  have e : k0_pay23 (Scalar.cmpi .eq (wr c) 0#32) (Scalar.cmpi .eq (wy c) 0#32) (own m c) (landX m c) (landZ m c) (landY m c) (ix2 i j)
      = Scalar.select (Scalar.cmpi .eq (wy c) 0#32) (own m c (ix2 i j)) (FloatOps.sitofp (F := Ideal) .f32 (landY m c (ix2 i j)) * Ideal.ofBits .f32 0x3F810204#32)
        + Scalar.select (Scalar.cmpi .eq (wr c) 0#32) (FloatOps.sitofp (F := Ideal) .f32 (landX m c (ix2 i j)) * Ideal.ofBits .f32 0x3F810204#32)
          (FloatOps.sitofp (F := Ideal) .f32 (landZ m c (ix2 i j)) * Ideal.ofBits .f32 0x3F810204#32) :=
    congrArg₂ (fun a b : EReal => a + b) (select_apply ..) (select_apply ..)
  rw [e, landX_half m X Y hX hY c i j, landZ_half m X Y hX hY c i j, landY_half m X Y hX hY c i j, own_half m X Y hX hY c i j, back_w8, back_w8, back_w8, is_y, is_r]
  have hyl := hy_lt c
  have hrl := hr_lt c
  unfold outVal
  refine congrArg₂ _ ?_ ?_
  · by_cases h : hy c = 0
    · rw [if_pos h, select_one, if_pos (by omega)]
      exact half_congr _ _ _ _ _ _ _ _ rfl rfl (by omega)
    · rw [if_neg h, select_zero, if_neg (by omega)]
      exact congrArg wire (half_congr _ _ _ _ _ _ _ _ rfl rfl (by omega))
  · by_cases h : hr c = 0
    · rw [if_pos h, select_one]
      exact congrArg wire (half_congr _ _ _ _ _ _ _ _ rfl rfl (by omega))
    · rw [if_neg h, select_zero]
      exact congrArg wire (half_congr _ _ _ _ _ _ _ _ rfl rfl (by omega))

/-- The right half of the columns. -/
theorem right_apply (c : Dev nD) (i : Fin 256) (j : Fin 1024) :
    k0_pay24 (Scalar.cmpi .eq (wr c) 0#32) (Scalar.cmpi .eq (wy c) 0#32) (own m c) (landX m c) (landZ m c) (landY m c) (ix2 i j)
      = outVal X Y (hx c) (hy c) i.val (1024 + j.val) (hx_lt c) i.isLt (by omega) := by
  have e : k0_pay24 (Scalar.cmpi .eq (wr c) 0#32) (Scalar.cmpi .eq (wy c) 0#32) (own m c) (landX m c) (landZ m c) (landY m c) (ix2 i j)
      = Scalar.select (Scalar.cmpi .eq (wy c) 0#32) (FloatOps.sitofp (F := Ideal) .f32 (landY m c (ix2 i j)) * Ideal.ofBits .f32 0x3F810204#32) (own m c (ix2 i j))
        + Scalar.select (Scalar.cmpi .eq (wr c) 0#32) (FloatOps.sitofp (F := Ideal) .f32 (landZ m c (ix2 i j)) * Ideal.ofBits .f32 0x3F810204#32)
          (FloatOps.sitofp (F := Ideal) .f32 (landX m c (ix2 i j)) * Ideal.ofBits .f32 0x3F810204#32) :=
    congrArg₂ (fun a b : EReal => a + b) (select_apply ..) (select_apply ..)
  rw [e, landX_half m X Y hX hY c i j, landZ_half m X Y hX hY c i j, landY_half m X Y hX hY c i j, own_half m X Y hX hY c i j, back_w8, back_w8, back_w8, is_y, is_r]
  have hyl := hy_lt c
  have hrl := hr_lt c
  unfold outVal
  refine congrArg₂ _ ?_ ?_
  · by_cases h : hy c = 0
    · rw [if_pos h, select_one, if_neg (by omega)]
      exact congrArg wire (half_congr _ _ _ _ _ _ _ _ rfl rfl (by omega))
    · rw [if_neg h, select_zero, if_pos (by omega)]
      exact half_congr _ _ _ _ _ _ _ _ rfl rfl (by omega)
  · by_cases h : hr c = 0
    · rw [if_pos h, select_one]
      exact congrArg wire (half_congr _ _ _ _ _ _ _ _ rfl rfl (by omega))
    · rw [if_neg h, select_zero]
      exact congrArg wire (half_congr _ _ _ _ _ _ _ _ rfl rfl (by omega))

/-- A device's whole block of the result. -/
theorem outAt_apply (c : Dev nD) (i : Fin 256) (n : Fin 2048) :
    outAt m c (ix2 i n) = outVal X Y (hx c) (hy c) i.val n.val (hx_lt c) i.isLt n.isLt := by
  unfold outAt glueCol
  by_cases h : n.val < 1024
  · refine (dif_pos h).trans ((congrArg _ ?_).trans (left_apply m X Y hX hY c i ⟨n.val, h⟩))
    funext a
    match a with
    | ⟨0, _⟩ => rfl
    | ⟨1, _⟩ => rfl
  · refine (dif_neg h).trans ((congrArg _ ?_).trans ((right_apply m X Y hX hY c i ⟨n.val - 1024, by omega⟩).trans ?_))
    · funext a
      match a with
      | ⟨0, _⟩ => rfl
      | ⟨1, _⟩ => rfl
    · have : 1024 + (n.val - 1024) = n.val := by omega
      simp only [this]

end Out

/-! ## From the launch's arrays to the final ones -/

/-- The operands' windows are the whole arrays. -/
theorem xstg_eq (c : Dev nD) : xstg m c = m ((c.tc : Thread nD τ).loc main_arg0) := by
  funext j
  unfold xstg
  blk_simp [iblk]
  refine congrArg (m ((c.tc : Thread nD τ).loc main_arg0)) (funext fun a => Fin.ext ?_)
  match a with
  | ⟨0, _⟩ => show 0 * 512 + 1 * (j 0).val = (j 0).val; omega
  | ⟨1, _⟩ => show 0 * 512 + 1 * (j 1).val = (j 1).val; omega
theorem dystg_eq (c : Dev nD) : dystg m c = m ((c.tc : Thread nD τ).loc main_arg1) := by
  funext j
  unfold dystg
  blk_simp [iblk]
  refine congrArg (m ((c.tc : Thread nD τ).loc main_arg1)) (funext fun a => Fin.ext ?_)
  match a with
  | ⟨0, _⟩ => show 0 * 512 + 1 * (j 0).val = (j 0).val; omega
  | ⟨1, _⟩ => show 0 * 2048 + 1 * (j 1).val = (j 1).val; omega

/-- The result's one write-back is the whole block. -/
theorem final_2 (c : Dev nD) : finalA m c (2 : Fin 3) = outAt m c :=
  (dats m 0 c).arrAt_eq_of_after_last (2 : Fin 3) t0_0 (by decide +kernel) (outAt m c) (fun j => rfl)

end Cert.KernelIdealProof

end
-- ==== Proof.ValueReferenceIdeal.lean ====
/-
# 01_k — over the reals: what the reference computes, entry by entry
-/
module

public import proofs.«01_k».proof.Proof.ValueKernelIdeal
public import proofs.«01_k».proof.Proof.Gen.ReferenceIdeal.Run

@[expose] public section

set_option maxRecDepth 16384

noncomputable section

namespace Cert.KernelIdealProof

open Cert.ReferenceIdeal Cert.ReferenceIdeal.Gen Cert.ReferenceIdeal.Value
open Idealize.ShloMosaic Idealize.SL.Sem Idealize.ShloMosaic.Pointwise Idealize.ShloMosaic.TcCoe

variable (m : (ℓ : Loc nD τ sig) → Buf (Elt Ideal) ℓ)

/-- The rows' own half product, as the reference joins it: the first half's upper rows over the second half's lower. -/
theorem own_ref (X : SX.Idx → EReal) (Y : SY.Idx → EReal) (i : Fin 512) (n : Fin 2048) :
    (if h : i.val < 256 then ∑ k : Fin 512, X (ix2 ⟨k.val, by omega⟩ i) * Y (ix2 ⟨k.val, by omega⟩ n)
      else ∑ k : Fin 512, X (ix2 ⟨512 + k.val, by omega⟩ ⟨256 + (i.val - 256), by omega⟩) * Y (ix2 ⟨512 + k.val, by omega⟩ n))
    = half X Y (i.val / 256) i.val n.val (by omega) i.isLt n.isLt := by
  unfold half
  split
  · have e : i.val / 256 = 0 := by omega
    simp only [e, Nat.mul_zero, Nat.zero_add, Fin.eta]
  · have e : i.val / 256 = 1 := by omega
    have e' : 256 + (i.val - 256) = i.val := by omega
    simp only [e, e', Nat.mul_one, Fin.eta]

/-- The other half product. -/
theorem other_ref (X : SX.Idx → EReal) (Y : SY.Idx → EReal) (i : Fin 512) (n : Fin 2048) :
    (if h : i.val < 256 then ∑ k : Fin 512, X (ix2 ⟨512 + k.val, by omega⟩ i) * Y (ix2 ⟨512 + k.val, by omega⟩ n)
      else ∑ k : Fin 512, X (ix2 ⟨k.val, by omega⟩ ⟨256 + (i.val - 256), by omega⟩) * Y (ix2 ⟨k.val, by omega⟩ n))
    = half X Y (1 - i.val / 256) i.val n.val (by omega) i.isLt n.isLt := by
  unfold half
  split
  · have e : 1 - i.val / 256 = 1 := by omega
    simp only [e, Nat.mul_one, Fin.eta]
  · have e : 1 - i.val / 256 = 0 := by omega
    have e' : 256 + (i.val - 256) = i.val := by omega
    simp only [e, e', Nat.mul_zero, Nat.zero_add, Fin.eta]

theorem slt_1024 : ∀ n : Fin 2048, IntOp.cmpi CmpIPredicate.slt (BitVec.ofNat 32 n.val) 1024#32 = if n.val < 1024 then 1#1 else 0#1 := by
  decide +kernel

/-- An entry of the reference's result. -/
theorem ref_apply (c : Dev nD) (i : Fin 512) (n : Fin 4096) :
    res_out0 m c (ix2 i n) = outVal (m ((c.tc : Thread nD τ).loc main_arg0)) (m ((c.tc : Thread nD τ).loc main_arg1)) (i.val / 256) (n.val / 2048)
      (i.val % 256) (n.val % 2048) (by omega) (by omega) (by omega) := by
  unfold res_out0
  pointwise [res_main_v48]
  have ei : 256 * (i.val / 256) + i.val % 256 = i.val := by omega
  by_cases h : n.val < 2048
  · refine (dif_pos h).trans ((congrArg₂ (fun a b : EReal => Scalar.select (IntOp.cmpi CmpIPredicate.slt (BitVec.ofNat 32 n.val) 1024#32) a (wire a) + wire b)
      (own_ref _ _ i ⟨n.val, h⟩) (other_ref _ _ i ⟨n.val, h⟩)).trans ?_)
    have en : n.val % 2048 = n.val := by omega
    have e0 : n.val / 2048 = 0 := by omega
    have hs := slt_1024 ⟨n.val, h⟩
    simp only at hs
    unfold outVal
    simp only [hs, ei, en, e0]
    by_cases hn : n.val < 1024
    · rw [if_pos hn, select_one, if_pos (by omega)]
    · rw [if_neg hn, select_zero, if_neg (by omega)]
  · refine (dif_neg h).trans ((congrArg₂ (fun a b : EReal => Scalar.select (IntOp.cmpi CmpIPredicate.slt (BitVec.ofNat 32 (n.val - 2048)) 1024#32) (wire a) a + wire b)
      (own_ref _ _ i ⟨n.val - 2048, by omega⟩) (other_ref _ _ i ⟨n.val - 2048, by omega⟩)).trans ?_)
    have en : n.val % 2048 = n.val - 2048 := by omega
    have e0 : n.val / 2048 = 1 := by omega
    have hs := slt_1024 ⟨n.val - 2048, by omega⟩
    simp only at hs
    unfold outVal
    simp only [hs, ei, en, e0]
    by_cases hn : n.val - 2048 < 1024
    · rw [if_pos hn, select_one, if_neg (by omega)]
    · rw [if_neg hn, select_zero, if_pos (by omega)]

/-! ## The two sides meet -/

theorem outVal_congr (X : SX.Idx → EReal) (Y : SY.Idx → EReal) {px px' py py' i i' n n' : ℕ} (h1 h1' h2 h2' h3 h3')
    (e1 : px = px') (e2 : py = py') (e3 : i = i') (e4 : n = n') : outVal X Y px py i n h1 h2 h3 = outVal X Y px' py' i' n' h1' h2' h3' := by
  subst e1 e2 e3 e4; rfl

theorem mesh_x : ∀ c : Fin 16, Layout.meshLin [2, 2, 4] c.val [0] = hx c := by decide
theorem mesh_y : ∀ c : Fin 16, Layout.meshLin [2, 2, 4] c.val [1] = hy c := by decide
theorem mesh_none : ∀ c : Fin 16, Layout.meshLin [2, 2, 4] c.val [] = 0 := by decide

/-- Each device's block of the result is its block of the reference's result. -/
theorem outAt_eq (mK : (ℓ : Loc Cert.KernelIdeal.nD Cert.KernelIdeal.τ Cert.KernelIdeal.sig) → Buf (Elt Ideal) ℓ)
    (hA : ∀ c : Dev Cert.KernelIdeal.nD,
      mK ((c.tc : Thread Cert.KernelIdeal.nD Cert.KernelIdeal.τ).loc Cert.KernelIdeal.main_arg0)
        = Layout.blockN ⟨2, ![512, 512]⟩ ⟨2, ![1024, 512]⟩ (Layout.meshBlock [2, 2, 4] ![[0], []] c) (m (((0 : Dev nD).tc : Thread nD τ).loc main_arg0))
      ∧ mK ((c.tc : Thread Cert.KernelIdeal.nD Cert.KernelIdeal.τ).loc Cert.KernelIdeal.main_arg1)
        = Layout.blockN ⟨2, ![512, 2048]⟩ ⟨2, ![1024, 2048]⟩ (Layout.meshBlock [2, 2, 4] ![[0], []] c) (m (((0 : Dev nD).tc : Thread nD τ).loc main_arg1)))
    (c : Dev Cert.KernelIdeal.nD) :
    outAt mK c = Layout.blockN ⟨2, ![256, 2048]⟩ ⟨2, ![512, 4096]⟩ (Layout.meshBlock [2, 2, 4] ![[0], [1]] c) (res_out0 m (0 : Dev nD)) := by
  funext j
  obtain ⟨i, n, rfl⟩ : ∃ (i : Fin 256) (n : Fin 2048), j = ix2 i n := ⟨j 0, j 1, eq_ix2 j⟩
  have hxl := hx_lt c
  have hyl := hy_lt c
  rw [outAt_apply mK (m (((0 : Dev nD).tc : Thread nD τ).loc main_arg0)) (m (((0 : Dev nD).tc : Thread nD τ).loc main_arg1)) ?_ ?_ c i n]
  · refine Eq.trans ?_ (((congrArg (res_out0 m (0 : Dev nD)) (?_ : _ = ix2 (⟨256 * hx c + i.val, by omega⟩ : Fin 512) (⟨2048 * hy c + n.val, by omega⟩ : Fin 4096))).trans
      (ref_apply m (0 : Dev nD) _ _)).symm)
    · exact outVal_congr _ _ _ _ _ _ _ _ (by simp only; omega) (by simp only; omega) (by simp only; omega) (by simp only; omega)
    · funext a
      refine Fin.ext ?_
      match a with
      | ⟨0, _⟩ => show Layout.meshLin [2, 2, 4] c.val [0] * 256 + i.val = 256 * hx c + i.val; rw [mesh_x]; omega
      | ⟨1, _⟩ => show Layout.meshLin [2, 2, 4] c.val [1] * 2048 + n.val = 2048 * hy c + n.val; rw [mesh_y]; omega
  · intro c k i
    refine (congrFun ((xstg_eq mK c).trans (hA c).1) (ix2 k i)).trans (congrArg (m (((0 : Dev nD).tc : Thread nD τ).loc main_arg0)) ?_)
    funext a
    refine Fin.ext ?_
    match a with
    | ⟨0, _⟩ => show Layout.meshLin [2, 2, 4] c.val [0] * 512 + k.val = 512 * hx c + k.val; rw [mesh_x]; omega
    | ⟨1, _⟩ => show Layout.meshLin [2, 2, 4] c.val [] * 512 + i.val = i.val; rw [mesh_none]; omega
  · intro c k n
    refine (congrFun ((dystg_eq mK c).trans (hA c).2) (ix2 k n)).trans (congrArg (m (((0 : Dev nD).tc : Thread nD τ).loc main_arg1)) ?_)
    funext a
    refine Fin.ext ?_
    match a with
    | ⟨0, _⟩ => show Layout.meshLin [2, 2, 4] c.val [0] * 512 + k.val = 512 * hx c + k.val; rw [mesh_x]; omega
    | ⟨1, _⟩ => show Layout.meshLin [2, 2, 4] c.val [] * 2048 + n.val = n.val; rw [mesh_none]; omega

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.ValueReferenceIdeal
public import Idealize.ShloMosaic.Adequacy
public import Idealize.ShloMosaic.Init

@[expose] public section

noncomputable section

namespace Cert.Proof

open Idealize.ShloMosaic Idealize.SL.Sem Cert.KernelIdealProof

/-! ## The two printings of the kernel are one program -/

section Same

variable {F : FTy → Type} [FloatOps F]

theorem defs₀_same : (Cert.Kernel.defs₀ (F := F)) = Cert.KernelIdeal.defs₀ (F := F) :=
  congrArg Defs.onTc (funext fun l => funext fun x => match l, x with
    | 0, (t, s) => rfl
    | ⟨n + 1, h⟩, _ => absurd h (Nat.not_lt.2 (Nat.le_add_left _ _)))

theorem defs_same : (Cert.Kernel.defs (F := F)) = Cert.KernelIdeal.defs (F := F) :=
  congrArg (Pipeline.defs (Cert.KernelIdeal.pcfgs (F := F))) defs₀_same

theorem main_same : (Cert.Kernel.main (F := F)) = Cert.KernelIdeal.main (F := F) := rfl

end Same

/-! ## The frames -/

theorem frame_kernelIdeal {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (final_0 m c), (h.1 c (1 : Fin 3)).trans (final_1 m c)⟩, h.2⟩)
    (run_main m g)

theorem frame_kernel : Cert.quiescent_Kernel := fun m g _ => by
  rw [defs_same, main_same]
  exact frame_kernelIdeal (F := Bits) m g

theorem frame_referenceIdeal : Cert.quiescent_ReferenceIdeal := fun m g _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run m g)

/-! ## The value -/

theorem algebraic : Cert.algebraic_KernelIdeal_ReferenceIdeal := fun m g m' g' _ hA =>
  ⟨Cert.ReferenceIdeal.Value.res_out0 m' (0 : Dev Cert.ReferenceIdeal.nD),
    (θ_run Cert.KernelIdeal.defs _ _).mono
      (fun _ h c => ⟨(h.1 c (2 : Fin 3)).trans ((final_2 m c).trans (outAt_eq m' m hA c)),
        (h.1 c (0 : Fin 3)).trans (final_0 m c), (h.1 c (1 : Fin 3)).trans (final_1 m c)⟩)
      (run_main m g),
    (θ_run Cert.ReferenceIdeal.defs _ _).mono (fun _ h => h (0 : Dev Cert.ReferenceIdeal.nD)) (Cert.ReferenceIdeal.Value.run m' g')⟩

theorem claim : Cert.Claim := ⟨Cert.Kernel.Gen.facts, Cert.KernelIdeal.Gen.facts, Cert.ReferenceIdeal.Gen.facts,
  frame_kernel, fun m g _ => frame_kernelIdeal m g, frame_referenceIdeal, trivial, algebraic⟩

end Cert.Proof

end
